-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0))) = (fun _ => 1#1)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v46) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v31) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v21) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v4)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v4) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v15) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Sb_SbIdeal : Prop :=
  IdealRules.named_const.Statement Cert.SbIdeal.κ "scale" .f32 0x3E38AA3B#32 (((8 * (Real.log 2))⁻¹ : ℝ) : EReal)
  ∧ IdealRules.named_const.Statement Cert.SbIdeal.κ "log2e" .f32 0x3FB8AA3B#32 (((Real.log 2)⁻¹ : ℝ) : EReal)
  ∧ IdealRules.named_const.Statement Cert.SbIdeal.κ "beta" .f32 0xF149F2CA#32 ⊥
  ∧ IdealRules.named_const.Statement Cert.SbIdeal.κ "dead" .f32 0xC3168000#32 ⊥

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v1)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v1) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v34) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def Claim : Prop :=
  ∃ (hSgu : Cert.Sgu.Facts) (hSguIdeal : Cert.SguIdeal.Facts) (hSguRefIdeal : Cert.SguRefIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hOutProj : Cert.OutProj.Facts) (hOutProjIdeal : Cert.OutProjIdeal.Facts) (hOutProjRefIdeal : Cert.OutProjRefIdeal.Facts) (hSb : Cert.Sb.Facts) (hSbIdeal : Cert.SbIdeal.Facts) (hSbRefIdeal : Cert.SbRefIdeal.Facts) (hPre_finite_qk : Cert.Pre_finite_qk.Facts),
    quiescent_Sgu (hSgu := hSgu)
    ∧ quiescent_SguIdeal (hSguIdeal := hSguIdeal)
    ∧ quiescent_SguRefIdeal (hSguRefIdeal := hSguRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ preserves_Sgu_SguIdeal
    ∧ algebraic_SguIdeal_SguRefIdeal (hSguIdeal := hSguIdeal) (hSguRefIdeal := hSguRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_OutProj_OutProjIdeal
    ∧ algebraic_OutProjIdeal_OutProjRefIdeal (hOutProjIdeal := hOutProjIdeal) (hOutProjRefIdeal := hOutProjRefIdeal)
    ∧ preserves_Sb_SbIdeal
    ∧ algebraic_SbIdeal_SbRefIdeal_pre_finite_qk (hSbIdeal := hSbIdeal) (hSbRefIdeal := hSbRefIdeal) (hPre_finite_qk := hPre_finite_qk)
-- ==== Pre_finite_qk.lean ====
abbrev S16x2048x6656 : Shape := ⟨3, ![16, 2048, 6656]⟩
abbrev S16x2048x2048 : Shape := ⟨3, ![16, 2048, 2048]⟩
abbrev S_ : Shape := ⟨0, ![]⟩

class Facts : Prop where
  slices_S16x2048x6656_S16x2048x2048_0_0_0 : S16x2048x6656.Slices ![0, 0, 0] S16x2048x2048
  bcast_S_S16x2048x2048 : S_.BroadcastsInDim S16x2048x2048 (![] : Fin 0 → Fin S16x2048x2048.rank)

variable [Facts]

def fn {F : FTy → Type} [FloatOps F] (main_arg0 : FVec F S16x2048x6656 .f32) : IVec S16x2048x2048 1 :=
  let main_v0 : FVec F S16x2048x2048 .f32 := (extractStridedSlice S16x2048x2048 ![0, 0, 0] · slices_S16x2048x6656_S16x2048x2048_0_0_0) main_arg0
  let main_v1 : FVec F S16x2048x2048 .f32 := Host.absf main_v0
  let main_cst : FVec F S_ .f32 := constant S_ .f32 0x7F800000#32
  let main_v2 : FVec F S16x2048x2048 .f32 := broadcastInDim S16x2048x2048 ![] bcast_S_S16x2048x2048 main_cst
  let main_v3 : IVec S16x2048x2048 1 := cmpf .olt main_v1 main_v2
  main_v3
-- ==== Sgu.lean ====
abbrev S16x2048x2048 : Shape := ⟨3, ![16, 2048, 2048]⟩
abbrev S16x2048x4096 : Shape := ⟨3, ![16, 2048, 4096]⟩
abbrev S2048 : Shape := ⟨1, ![2048]⟩
abbrev S8x128x128 : Shape := ⟨3, ![8, 128, 128]⟩
abbrev S8x128 : Shape := ⟨2, ![8, 128]⟩
abbrev S2048x2048 : Shape := ⟨2, ![2048, 2048]⟩
abbrev S32768x2048 : Shape := ⟨2, ![32768, 2048]⟩
abbrev S32768x4096 : Shape := ⟨2, ![32768, 4096]⟩
abbrev S1x2048 : Shape := ⟨2, ![1, 2048]⟩
abbrev S128x8 : Shape := ⟨2, ![128, 8]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S16x2048x2048, .f32⟩
  | .hbm, ⟨1, _⟩ => ⟨S16x2048x4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x2048, .f32⟩
  | .hbm, ⟨7, _⟩ => ⟨S32768x2048, .f32⟩
  | .hbm, ⟨8, _⟩ => ⟨S32768x4096, .f32⟩
  | .hbm, ⟨9, _⟩ => ⟨S1x2048, .f32⟩
  | .hbm, ⟨10, _⟩ => ⟨S1x2048, .f32⟩
  | .hbm, ⟨11, _⟩ => ⟨S128x8, .f32⟩
  | .hbm, ⟨12, _⟩ => ⟨S2048x2048, .bf16⟩
  | .hbm, ⟨13, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguRefIdeal.lean ====
abbrev S16x2048x2048 : Shape := ⟨3, ![16, 2048, 2048]⟩
abbrev S16x2048x4096 : Shape := ⟨3, ![16, 2048, 4096]⟩
abbrev S2048 : Shape := ⟨1, ![2048]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x16x128x8x256 : Shape := ⟨5, ![16, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x16x16x256x128 : Shape := ⟨5, ![8, 16, 16, 256, 128]⟩
abbrev S128x8 : Shape := ⟨2, ![128, 8]⟩
abbrev S1x1x128x8x1 : Shape := ⟨5, ![1, 1, 128, 8, 1]⟩
abbrev S32768x2048 : Shape := ⟨2, ![32768, 2048]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S1x1x2048, .f32⟩
  | .hbm, ⟨33, _⟩ => ⟨S16x2048x2048, .f32⟩
  | .hbm, ⟨34, _⟩ => ⟨S16x2048x2048, .f32⟩
  | .hbm, ⟨35, _⟩ => ⟨S1x1x2048, .f32⟩
  | .hbm, ⟨36, _⟩ => ⟨S16x2048x2048, .f32⟩
  | .hbm, ⟨37, _⟩ => ⟨S16x2048x2048, .f32⟩
  | .hbm, ⟨38, _⟩ => ⟨S16x16x128x8x256, .f32⟩
  | .hbm, ⟨39, _⟩ => ⟨S128, .i32⟩
  | .hbm, ⟨40, _⟩ => ⟨S_, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S1x128, .i32⟩
  | .hbm, ⟨59, _⟩ => ⟨S128x1, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S1x128x128, .i1⟩
  | .hbm, ⟨64, _⟩ => ⟨S_, .f32⟩
  | .hbm, ⟨65, _⟩ => ⟨S_, .f32⟩
  | .hbm, ⟨66, _⟩ => ⟨S8x128x128, .i1⟩
  | .hbm, ⟨67, _⟩ => ⟨S8x128x128, .f32⟩
  | .hbm, ⟨68, _⟩ => ⟨S8x128x128, .f32⟩
  | .hbm, ⟨69, _⟩ => ⟨S8x16x16x256x128, .f32⟩
  | .hbm, ⟨70, _⟩ => ⟨S16x16x128x8x256, .f32⟩
  | .hbm, ⟨71, _⟩ => ⟨S128x8, .f32⟩
  | .hbm, ⟨72, _⟩ => ⟨S1x1x128x8x1, .f32⟩
  | .hbm, ⟨73, _⟩ => ⟨S16x16x128x8x256, .f32⟩
  | .hbm, ⟨74, _⟩ => ⟨S16x16x128x8x256, .f32⟩
  | .hbm, ⟨75, _⟩ => ⟨S16x2048x2048, .f32⟩
  | .hbm, ⟨76, _⟩ => ⟨S16x2048x2048, .f32⟩
  | .hbm, ⟨77, _⟩ => ⟨S16x2048x2048, .f32⟩
  | .hbm, ⟨78, _⟩ => ⟨S16x2048x2048, .f32⟩
  | .hbm, ⟨79, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩

abbrev nD : Nat := 1
abbrev τ : Topo := Topo.v7x

variable {F : FTy → Type} [FloatOps F]
-- ==== FfnFinal.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32768x2048, .f32⟩
  | .hbm, ⟨6, _⟩ => ⟨S1x2048, .f32⟩
  | .hbm, ⟨7, _⟩ => ⟨S2048x8192, .bf16⟩
  | .hbm, ⟨8, _⟩ => ⟨S8192x2048, .bf16⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFinalRefIdeal.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x2048x8192, .f32⟩
  | .hbm, ⟨22, _⟩ => ⟨S_, .f32⟩
  | .hbm, ⟨23, _⟩ => ⟨S16x2048x8192, .f32⟩
  | .hbm, ⟨24, _⟩ => ⟨S16x2048x8192, .f32⟩
  | .hbm, ⟨25, _⟩ => ⟨S16x2048x8192, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S1x1x2048, .f32⟩
  | .hbm, ⟨42, _⟩ => ⟨S16x2048x2048, .f32⟩
  | .hbm, ⟨43, _⟩ => ⟨S16x2048x2048, .f32⟩
  | .hbm, ⟨44, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Ffn.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32768x2048, .f32⟩
  | .hbm, ⟨6, _⟩ => ⟨S1x2048, .f32⟩
  | .hbm, ⟨7, _⟩ => ⟨S2048x8192, .bf16⟩
  | .hbm, ⟨8, _⟩ => ⟨S8192x2048, .bf16⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x2048x8192, .f32⟩
  | .hbm, ⟨22, _⟩ => ⟨S_, .f32⟩
  | .hbm, ⟨23, _⟩ => ⟨S16x2048x8192, .f32⟩
  | .hbm, ⟨24, _⟩ => ⟨S16x2048x8192, .f32⟩
  | .hbm, ⟨25, _⟩ => ⟨S16x2048x8192, .f32⟩
  | .hbm, ⟨26, _⟩ => ⟨S16x2048x2048, .f32⟩
  | .hbm, ⟨27, _⟩ => ⟨S16x2048x2048, .f32⟩
  | .hbm, ⟨28, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== OddIn.lean ====
abbrev S16x2048x2048 : Shape := ⟨3, ![16, 2048, 2048]⟩
abbrev S2048 : Shape := ⟨1, ![2048]⟩
abbrev S2048x4096 : Shape := ⟨2, ![2048, 4096]⟩
abbrev S32768x2048 : Shape := ⟨2, ![32768, 2048]⟩
abbrev S1x2048 : Shape := ⟨2, ![1, 2048]⟩
abbrev S32768x4096 : Shape := ⟨2, ![32768, 4096]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x4096, .f32⟩
  | .hbm, ⟨3, _⟩ => ⟨S32768x2048, .f32⟩
  | .hbm, ⟨4, _⟩ => ⟨S1x2048, .f32⟩
  | .hbm, ⟨5, _⟩ => ⟨S2048x4096, .bf16⟩
  | .hbm, ⟨6, _⟩ => ⟨S32768x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInRefIdeal.lean ====
abbrev S16x2048x2048 : Shape := ⟨3, ![16, 2048, 2048]⟩
abbrev S2048 : Shape := ⟨1, ![2048]⟩
abbrev S2048x4096 : Shape := ⟨2, ![2048, 4096]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x4096 : Shape := ⟨3, ![16, 2048, 4096]⟩
abbrev S32768x4096 : Shape := ⟨2, ![32768, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x4096, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x4096, .f32⟩
  | .hbm, ⟨20, _⟩ => ⟨S_, .f32⟩
  | .hbm, ⟨21, _⟩ => ⟨S16x2048x4096, .f32⟩
  | .hbm, ⟨22, _⟩ => ⟨S16x2048x4096, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | .hbm, ⟨27, _⟩ => ⟨S16x2048x4096, .f32⟩
  | .hbm, ⟨28, _⟩ => ⟨S16x2048x4096, .f32⟩
  | .hbm, ⟨29, _⟩ => ⟨S32768x4096, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== EvenIn.lean ====
abbrev S16x2048x2048 : Shape := ⟨3, ![16, 2048, 2048]⟩
abbrev S2048 : Shape := ⟨1, ![2048]⟩
abbrev S2048x6432 : Shape := ⟨2, ![2048, 6432]⟩
abbrev S32768x2048 : Shape := ⟨2, ![32768, 2048]⟩
abbrev S1x2048 : Shape := ⟨2, ![1, 2048]⟩
abbrev S_ : Shape := ⟨0, ![]⟩
abbrev S2048x6656 : Shape := ⟨2, ![2048, 6656]⟩
abbrev S32768x6656 : Shape := ⟨2, ![32768, 6656]⟩
abbrev S512x2048 : Shape := ⟨2, ![512, 2048]⟩
abbrev S2048x3328 : Shape := ⟨2, ![2048, 3328]⟩
abbrev S512x3328 : Shape := ⟨2, ![512, 3328]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6432, .f32⟩
  | .hbm, ⟨3, _⟩ => ⟨S32768x2048, .f32⟩
  | .hbm, ⟨4, _⟩ => ⟨S1x2048, .f32⟩
  | .hbm, ⟨5, _⟩ => ⟨S_, .i32⟩
  | .hbm, ⟨6, _⟩ => ⟨S_, .f32⟩
  | .hbm, ⟨7, _⟩ => ⟨S2048x6656, .f32⟩
  | .hbm, ⟨8, _⟩ => ⟨S2048x6656, .bf16⟩
  | .hbm, ⟨9, _⟩ => ⟨S32768x6656, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3328, .bf16⟩
  | .local _ .vmem, ⟨4, _⟩ => ⟨S2048x3328, .bf16⟩
  | .local _ .vmem, ⟨5, _⟩ => ⟨S512x3328, .f32⟩
  | .local _ .vmem, ⟨6, _⟩ => ⟨S512x3328, .f32⟩
  | .local _ .vmem, ⟨7, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInRefIdeal.lean ====
abbrev S16x2048x2048 : Shape := ⟨3, ![16, 2048, 2048]⟩
abbrev S2048 : Shape := ⟨1, ![2048]⟩
abbrev S2048x6432 : Shape := ⟨2, ![2048, 6432]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6432 : Shape := ⟨3, ![16, 2048, 6432]⟩
abbrev S32768x6432 : Shape := ⟨2, ![32768, 6432]⟩
abbrev S32768x6656 : Shape := ⟨2, ![32768, 6656]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6432, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x6432, .f32⟩
  | .hbm, ⟨20, _⟩ => ⟨S32768x6432, .f32⟩
  | .hbm, ⟨21, _⟩ => ⟨S_, .i32⟩
  | .hbm, ⟨22, _⟩ => ⟨S_, .f32⟩
  | .hbm, ⟨23, _⟩ => ⟨S32768x6656, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== OutProj.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S32768x2048 : Shape := ⟨2, ![32768, 2048]⟩
abbrev S32768x1024 : Shape := ⟨2, ![32768, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S2048x2048, .f32⟩
  | .hbm, ⟨4, _⟩ => ⟨S32768x2048, .f32⟩
  | .hbm, ⟨5, _⟩ => ⟨S32768x1024, .bf16⟩
  | .hbm, ⟨6, _⟩ => ⟨S32768x1024, .bf16⟩
  | .hbm, ⟨7, _⟩ => ⟨S2048x2048, .bf16⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S2048x2048, .f32⟩
  | .hbm, ⟨4, _⟩ => ⟨S16x2048x1024, .f32⟩
  | .hbm, ⟨5, _⟩ => ⟨S16x2048x1024, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Sb.lean ====
abbrev S16x2048x6656 : Shape := ⟨3, ![16, 2048, 6656]⟩
abbrev S32768x6656 : Shape := ⟨2, ![32768, 6656]⟩
abbrev S32768x1024 : Shape := ⟨2, ![32768, 1024]⟩
abbrev S256x128 : Shape := ⟨2, ![256, 128]⟩
abbrev S2048x128 : Shape := ⟨2, ![2048, 128]⟩
abbrev S2x2x256x128 : Shape := ⟨4, ![2, 2, 256, 128]⟩
abbrev S2x256x128 : Shape := ⟨3, ![2, 256, 128]⟩
abbrev S128x256 : Shape := ⟨2, ![128, 256]⟩
abbrev S128x128 : Shape := ⟨2, ![128, 128]⟩
abbrev S1x1x256x128 : Shape := ⟨4, ![1, 1, 256, 128]⟩
abbrev S256x256 : Shape := ⟨2, ![256, 256]⟩
abbrev S1x256x128 : Shape := ⟨3, ![1, 256, 128]⟩
abbrev S1x2x256x128 : Shape := ⟨4, ![1, 2, 256, 128]⟩
abbrev S1 : Shape := ⟨1, ![1]⟩
abbrev S1x1x1x1 : Shape := ⟨4, ![1, 1, 1, 1]⟩

abbrev nBuf : Space → Nat
  | .hbm => 3
  | .vmem => 15
  | .smem => 0
  | _ => 0

abbrev bufTy : (tb : Table) → Fin (tcTables nBuf tb) → BufTy
  | .hbm, ⟨0, _⟩ => ⟨S16x2048x6656, .f32⟩
  | .hbm, ⟨1, _⟩ => ⟨S32768x6656, .f32⟩
  | .hbm, ⟨2, _⟩ => ⟨S32768x1024, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S2x2x256x128, .f32⟩
  | .local _ .vmem, ⟨9, _⟩ => ⟨S2x2x256x128, .bf16⟩
  | .local _ .vmem, ⟨10, _⟩ => ⟨S2x2x256x128, .f32⟩
  | .local _ .vmem, ⟨11, _⟩ => ⟨S2x2x256x128, .f32⟩
  | .local _ .vmem, ⟨12, _⟩ => ⟨S2x2x256x128, .f32⟩
  | .local _ .vmem, ⟨13, _⟩ => ⟨S2x256x128, .f32⟩
  | .local _ .vmem, ⟨14, _⟩ => ⟨S2x256x128, .f32⟩
  | _, _ => ⟨S16x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 8], ![false, false, false]⟩

def k0_mult1 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_13 : BitVec 32 := 1#32
  let v33 : BitVec 32 := Scalar.subi v1 c1_i32_13
  let c0_i32 : BitVec 32 := 0#32
  let v34 : BitVec 32 := Scalar.subi v33 c0_i32
  let c0_i32_14 : BitVec 32 := 0#32
  let v35 : BitVec 32 := Scalar.maxsi v34 c0_i32_14
  let c128_i32_15 : BitVec 32 := 128#32
  let v36 : BitVec 32 := Scalar.muli v35 c128_i32_15
  v36
def k0_off1 (i : grid0.Coords) (c0_i32 : BitVec 32) : Fin 2 → Nat :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_13 : BitVec 32 := 1#32
  let v33 : BitVec 32 := Scalar.subi v1 c1_i32_13
  let v34 : BitVec 32 := Scalar.subi v33 c0_i32
  let c0_i32_14 : BitVec 32 := 0#32
  let v35 : BitVec 32 := Scalar.maxsi v34 c0_i32_14
  let c128_i32_15 : BitVec 32 := 128#32
  let v36 : BitVec 32 := Scalar.muli v35 c128_i32_15
  let v37 : BitVec 32 := v36
  let v38 : Index := Scalar.indexCast v37
  let c0_16 : Index := 0#32
  ![v38.toNat, 0]
def k0_mult2 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_71 : BitVec 32 := 1#32
  let v128 : BitVec 32 := Scalar.subi v1 c1_i32_71
  let c1_i32_72 : BitVec 32 := 1#32
  let v129 : BitVec 32 := Scalar.subi v128 c1_i32_72
  let c0_i32_73 : BitVec 32 := 0#32
  let v130 : BitVec 32 := Scalar.maxsi v129 c0_i32_73
  let c128_i32_74 : BitVec 32 := 128#32
  let v131 : BitVec 32 := Scalar.muli v130 c128_i32_74
  v131
def k0_mult3 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_166 : BitVec 32 := 1#32
  let v251 : BitVec 32 := Scalar.subi v1 c1_i32_166
  let c2_i32_167 : BitVec 32 := 2#32
  let v252 : BitVec 32 := Scalar.subi v251 c2_i32_167
  let c0_i32_168 : BitVec 32 := 0#32
  let v253 : BitVec 32 := Scalar.maxsi v252 c0_i32_168
  let c128_i32_169 : BitVec 32 := 128#32
  let v254 : BitVec 32 := Scalar.muli v253 c128_i32_169
  v254
def k0_mult4 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_181 : BitVec 32 := 1#32
  let v268 : BitVec 32 := Scalar.subi v1 c1_i32_181
  let c3_i32 : BitVec 32 := 3#32
  let v269 : BitVec 32 := Scalar.subi v268 c3_i32
  let c0_i32_182 : BitVec 32 := 0#32
  let v270 : BitVec 32 := Scalar.maxsi v269 c0_i32_182
  let c128_i32_183 : BitVec 32 := 128#32
  let v271 : BitVec 32 := Scalar.muli v270 c128_i32_183
  v271
def k0_mult5 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_229 : BitVec 32 := 1#32
  let v313 : BitVec 32 := Scalar.subi v1 c1_i32_229
  let c0_i32_230 : BitVec 32 := 0#32
  let v314 : BitVec 32 := Scalar.subi v313 c0_i32_230
  let c0_i32_231 : BitVec 32 := 0#32
  let v315 : BitVec 32 := Scalar.maxsi v314 c0_i32_231
  let c128_i32_232 : BitVec 32 := 128#32
  let v316 : BitVec 32 := Scalar.muli v315 c128_i32_232
  v316
def k0_mult6 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_308 : BitVec 32 := 1#32
  let v406 : BitVec 32 := Scalar.subi v1 c1_i32_308
  let c4_i32 : BitVec 32 := 4#32
  let v407 : BitVec 32 := Scalar.subi v406 c4_i32
  let c0_i32_309 : BitVec 32 := 0#32
  let v408 : BitVec 32 := Scalar.maxsi v407 c0_i32_309
  let c128_i32_310 : BitVec 32 := 128#32
  let v409 : BitVec 32 := Scalar.muli v408 c128_i32_310
  v409
def k0_mult7 (i : grid0.Coords) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_356 : BitVec 32 := 1#32
  let v451 : BitVec 32 := Scalar.subi v1 c1_i32_356
  let c1_i32_357 : BitVec 32 := 1#32
  let v452 : BitVec 32 := Scalar.subi v451 c1_i32_357
  let c0_i32_358 : BitVec 32 := 0#32
  let v453 : BitVec 32 := Scalar.maxsi v452 c0_i32_358
  let c128_i32_359 : BitVec 32 := 128#32
  let v454 : BitVec 32 := Scalar.muli v453 c128_i32_359
  v454
def k0_mult8 (i : grid0.Coords) (arg14 : BitVec 32) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_451 : BitVec 32 := 1#32
  let v560 : BitVec 32 := Scalar.subi v1 c1_i32_451
  let c2_i32_449 : BitVec 32 := 2#32
  let v558 : BitVec 32 := Scalar.muli c2_i32_449 arg14
  let c3_i32_450 : BitVec 32 := 3#32
  let v559 : BitVec 32 := Scalar.addi v558 c3_i32_450
  let v561 : BitVec 32 := Scalar.subi v560 v559
  let c0_i32_452 : BitVec 32 := 0#32
  let v562 : BitVec 32 := Scalar.maxsi v561 c0_i32_452
  let c128_i32_453 : BitVec 32 := 128#32
  let v563 : BitVec 32 := Scalar.muli v562 c128_i32_453
  v563

def k0_off2 (i : grid0.Coords) (arg14 : BitVec 32) : Fin 2 → Nat :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_451 : BitVec 32 := 1#32
  let v560 : BitVec 32 := Scalar.subi v1 c1_i32_451
  let c2_i32_449 : BitVec 32 := 2#32
  let v558 : BitVec 32 := Scalar.muli c2_i32_449 arg14
  let c3_i32_450 : BitVec 32 := 3#32
  let v559 : BitVec 32 := Scalar.addi v558 c3_i32_450
  let v561 : BitVec 32 := Scalar.subi v560 v559
  let c0_i32_452 : BitVec 32 := 0#32
  let v562 : BitVec 32 := Scalar.maxsi v561 c0_i32_452
  let c128_i32_453 : BitVec 32 := 128#32
  let v563 : BitVec 32 := Scalar.muli v562 c128_i32_453
  let v564 : BitVec 32 := v563
  let v565 : Index := Scalar.indexCast v564
  let c0_454 : Index := 0#32
  ![v565.toNat, 0]
def k0_mult9 (i : grid0.Coords) (arg14 : BitVec 32) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_500 : BitVec 32 := 1#32
  let v606 : BitVec 32 := Scalar.subi v1 c1_i32_500
  let c2_i32_449 : BitVec 32 := 2#32
  let v558 : BitVec 32 := Scalar.muli c2_i32_449 arg14
  let c3_i32_450 : BitVec 32 := 3#32
  let v559 : BitVec 32 := Scalar.addi v558 c3_i32_450
  let c3_i32_499 : BitVec 32 := 3#32
  let v605 : BitVec 32 := Scalar.subi v559 c3_i32_499
  let v607 : BitVec 32 := Scalar.subi v606 v605
  let c0_i32_501 : BitVec 32 := 0#32
  let v608 : BitVec 32 := Scalar.maxsi v607 c0_i32_501
  let c128_i32_502 : BitVec 32 := 128#32
  let v609 : BitVec 32 := Scalar.muli v608 c128_i32_502
  v609
def k0_off3 (i : grid0.Coords) (arg14 : BitVec 32) : Fin 2 → Nat :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_500 : BitVec 32 := 1#32
  let v606 : BitVec 32 := Scalar.subi v1 c1_i32_500
  let c2_i32_449 : BitVec 32 := 2#32
  let v558 : BitVec 32 := Scalar.muli c2_i32_449 arg14
  let c3_i32_450 : BitVec 32 := 3#32
  let v559 : BitVec 32 := Scalar.addi v558 c3_i32_450
  let c3_i32_499 : BitVec 32 := 3#32
  let v605 : BitVec 32 := Scalar.subi v559 c3_i32_499
  let v607 : BitVec 32 := Scalar.subi v606 v605
  let c0_i32_501 : BitVec 32 := 0#32
  let v608 : BitVec 32 := Scalar.maxsi v607 c0_i32_501
  let c128_i32_502 : BitVec 32 := 128#32
  let v609 : BitVec 32 := Scalar.muli v608 c128_i32_502
  let v610 : BitVec 32 := v609
  let v611 : Index := Scalar.indexCast v610
  let c0_503 : Index := 0#32
  ![v611.toNat, 0]
def k0_mult10 (i : grid0.Coords) (arg14 : BitVec 32) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_579 : BitVec 32 := 1#32
  let v700 : BitVec 32 := Scalar.subi v1 c1_i32_579
  let c2_i32_449 : BitVec 32 := 2#32
  let v558 : BitVec 32 := Scalar.muli c2_i32_449 arg14
  let c3_i32_450 : BitVec 32 := 3#32
  let v559 : BitVec 32 := Scalar.addi v558 c3_i32_450
  let c1_i32_578 : BitVec 32 := 1#32
  let v699 : BitVec 32 := Scalar.addi v559 c1_i32_578
  let v701 : BitVec 32 := Scalar.subi v700 v699
  let c0_i32_580 : BitVec 32 := 0#32
  let v702 : BitVec 32 := Scalar.maxsi v701 c0_i32_580
  let c128_i32_581 : BitVec 32 := 128#32
  let v703 : BitVec 32 := Scalar.muli v702 c128_i32_581
  v703
def k0_off4 (i : grid0.Coords) (arg14 : BitVec 32) : Fin 2 → Nat :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_579 : BitVec 32 := 1#32
  let v700 : BitVec 32 := Scalar.subi v1 c1_i32_579
  let c2_i32_449 : BitVec 32 := 2#32
  let v558 : BitVec 32 := Scalar.muli c2_i32_449 arg14
  let c3_i32_450 : BitVec 32 := 3#32
  let v559 : BitVec 32 := Scalar.addi v558 c3_i32_450
  let c1_i32_578 : BitVec 32 := 1#32
  let v699 : BitVec 32 := Scalar.addi v559 c1_i32_578
  let v701 : BitVec 32 := Scalar.subi v700 v699
  let c0_i32_580 : BitVec 32 := 0#32
  let v702 : BitVec 32 := Scalar.maxsi v701 c0_i32_580
  let c128_i32_581 : BitVec 32 := 128#32
  let v703 : BitVec 32 := Scalar.muli v702 c128_i32_581
  let v704 : BitVec 32 := v703
  let v705 : Index := Scalar.indexCast v704
  let c0_582 : Index := 0#32
  ![v705.toNat, 0]
def k0_mult11 (i : grid0.Coords) (arg14 : BitVec 32) : BitVec 32 :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_628 : BitVec 32 := 1#32
  let v746 : BitVec 32 := Scalar.subi v1 c1_i32_628
  let c2_i32_449 : BitVec 32 := 2#32
  let v558 : BitVec 32 := Scalar.muli c2_i32_449 arg14
  let c3_i32_450 : BitVec 32 := 3#32
  let v559 : BitVec 32 := Scalar.addi v558 c3_i32_450
  let c1_i32_578 : BitVec 32 := 1#32
  let v699 : BitVec 32 := Scalar.addi v559 c1_i32_578
  let c3_i32_627 : BitVec 32 := 3#32
  let v745 : BitVec 32 := Scalar.subi v699 c3_i32_627
  let v747 : BitVec 32 := Scalar.subi v746 v745
  let c0_i32_629 : BitVec 32 := 0#32
  let v748 : BitVec 32 := Scalar.maxsi v747 c0_i32_629
  let c128_i32_630 : BitVec 32 := 128#32
  let v749 : BitVec 32 := Scalar.muli v748 c128_i32_630
  v749
def k0_off5 (i : grid0.Coords) (arg14 : BitVec 32) : Fin 2 → Nat :=
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c1_i32_628 : BitVec 32 := 1#32
  let v746 : BitVec 32 := Scalar.subi v1 c1_i32_628
  let c2_i32_449 : BitVec 32 := 2#32
  let v558 : BitVec 32 := Scalar.muli c2_i32_449 arg14
  let c3_i32_450 : BitVec 32 := 3#32
  let v559 : BitVec 32 := Scalar.addi v558 c3_i32_450
  let c1_i32_578 : BitVec 32 := 1#32
  let v699 : BitVec 32 := Scalar.addi v559 c1_i32_578
  let c3_i32_627 : BitVec 32 := 3#32
  let v745 : BitVec 32 := Scalar.subi v699 c3_i32_627
  let v747 : BitVec 32 := Scalar.subi v746 v745
  let c0_i32_629 : BitVec 32 := 0#32
  let v748 : BitVec 32 := Scalar.maxsi v747 c0_i32_629
  let c128_i32_630 : BitVec 32 := 128#32
  let v749 : BitVec 32 := Scalar.muli v748 c128_i32_630
  let v750 : BitVec 32 := v749
  let v751 : Index := Scalar.indexCast v750
  let c0_631 : Index := 0#32
  ![v751.toNat, 0]

def k0_chk1 (i : grid0.Coords) (arg14 : BitVec 32) : Prop :=
  (128 ∣ (k0_mult8 i arg14).toNat) ∧
  (∀ a, (k0_off2 i arg14) a + S128x128.size a ≤ S2048x128.size a) ∧
  (128 ∣ (k0_mult9 i arg14).toNat) ∧
  (∀ a, (k0_off3 i arg14) a + S128x128.size a ≤ S2048x128.size a) ∧
  (128 ∣ (k0_mult10 i arg14).toNat) ∧
  (∀ a, (k0_off4 i arg14) a + S128x128.size a ≤ S2048x128.size a) ∧
  (128 ∣ (k0_mult11 i arg14).toNat) ∧
  (∀ a, (k0_off5 i arg14) a + S128x128.size a ≤ S2048x128.size a)
theorem k0_mult8_dvd : ∀ (i : grid0.Coords) (arg14 : BitVec 32) (k0_hw1 : k0_chk1 i arg14), 128 ∣ (k0_mult8 i arg14).toNat := fun i arg14 k0_hw1 => k0_hw1.1
theorem k0_off2_inb : ∀ (i : grid0.Coords) (arg14 : BitVec 32) (k0_hw1 : k0_chk1 i arg14), ∀ a, (k0_off2 i arg14) a + S128x128.size a ≤ S2048x128.size a := fun i arg14 k0_hw1 => k0_hw1.2.1
theorem k0_mult9_dvd : ∀ (i : grid0.Coords) (arg14 : BitVec 32) (k0_hw1 : k0_chk1 i arg14), 128 ∣ (k0_mult9 i arg14).toNat := fun i arg14 k0_hw1 => k0_hw1.2.2.1
theorem k0_off3_inb : ∀ (i : grid0.Coords) (arg14 : BitVec 32) (k0_hw1 : k0_chk1 i arg14), ∀ a, (k0_off3 i arg14) a + S128x128.size a ≤ S2048x128.size a := fun i arg14 k0_hw1 => k0_hw1.2.2.2.1
theorem k0_mult10_dvd : ∀ (i : grid0.Coords) (arg14 : BitVec 32) (k0_hw1 : k0_chk1 i arg14), 128 ∣ (k0_mult10 i arg14).toNat := fun i arg14 k0_hw1 => k0_hw1.2.2.2.2.1
theorem k0_off4_inb : ∀ (i : grid0.Coords) (arg14 : BitVec 32) (k0_hw1 : k0_chk1 i arg14), ∀ a, (k0_off4 i arg14) a + S128x128.size a ≤ S2048x128.size a := fun i arg14 k0_hw1 => k0_hw1.2.2.2.2.2.1
theorem k0_mult11_dvd : ∀ (i : grid0.Coords) (arg14 : BitVec 32) (k0_hw1 : k0_chk1 i arg14), 128 ∣ (k0_mult11 i arg14).toNat := fun i arg14 k0_hw1 => k0_hw1.2.2.2.2.2.2.1
theorem k0_off5_inb : ∀ (i : grid0.Coords) (arg14 : BitVec 32) (k0_hw1 : k0_chk1 i arg14), ∀ a, (k0_off5 i arg14) a + S128x128.size a ≤ S2048x128.size a := fun i arg14 k0_hw1 => k0_hw1.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbIdeal.lean ====
variable {F : FTy → Type} [FloatOps F] [Named F]
def κ : String → Option EReal := fun
  | "beta" => some ⊥
  | "dead" => some ⊥
  | "log2e" => some (((Real.log 2)⁻¹ : ℝ) : EReal)
  | "scale" => some (((8 * (Real.log 2))⁻¹ : ℝ) : EReal)
  | _ => none
-- ==== SbRefIdeal.lean ====
abbrev S16x2048x6656 : Shape := ⟨3, ![16, 2048, 6656]⟩
abbrev S16x2048x3072 : Shape := ⟨3, ![16, 2048, 3072]⟩
abbrev S16x2048x1024 : Shape := ⟨3, ![16, 2048, 1024]⟩
abbrev S16x2048x16x64 : Shape := ⟨4, ![16, 2048, 16, 64]⟩
abbrev S16x16x2048x64 : Shape := ⟨4, ![16, 16, 2048, 64]⟩
abbrev S16x16x2048x2048 : Shape := ⟨4, ![16, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x16x2048x2047 : Shape := ⟨4, ![16, 16, 2048, 2047]⟩
abbrev S16x16x2048x1 : Shape := ⟨4, ![16, 16, 2048, 1]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x6656, .f32⟩
  | .hbm, ⟨1, _⟩ => ⟨S16x2048x3072, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S16x2048x16x64, .f32⟩
  | .hbm, ⟨6, _⟩ => ⟨S16x16x2048x64, .f32⟩
  | .hbm, ⟨7, _⟩ => ⟨S16x2048x16x64, .f32⟩
  | .hbm, ⟨8, _⟩ => ⟨S16x16x2048x64, .f32⟩
  | .hbm, ⟨9, _⟩ => ⟨S16x2048x16x64, .f32⟩
  | .hbm, ⟨10, _⟩ => ⟨S16x16x2048x64, .f32⟩
  | .hbm, ⟨11, _⟩ => ⟨S16x16x2048x2048, .f32⟩
  | .hbm, ⟨12, _⟩ => ⟨S_, .f32⟩
  | .hbm, ⟨13, _⟩ => ⟨S16x16x2048x2048, .f32⟩
  | .hbm, ⟨14, _⟩ => ⟨S16x16x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S16x16x2048x2048, .f32⟩
  | .hbm, ⟨25, _⟩ => ⟨S16x16x2048x2048, .f32⟩
  | .hbm, ⟨26, _⟩ => ⟨S16x16x2048x2048, .f32⟩
  | .hbm, ⟨27, _⟩ => ⟨S16x16x2048x2048, .f32⟩
  | .hbm, ⟨28, _⟩ => ⟨S16x16x2048x2048, .i1⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S16x16x2048x2048, .f32⟩
  | .hbm, ⟨33, _⟩ => ⟨S16x16x2048x2048, .f32⟩
  | .hbm, ⟨34, _⟩ => ⟨S16x16x2048x2048, .f32⟩
  | .hbm, ⟨35, _⟩ => ⟨S16x16x2048x2048, .f32⟩
  | .hbm, ⟨36, _⟩ => ⟨S16x16x2048x2048, .f32⟩
  | .hbm, ⟨37, _⟩ => ⟨S16x16x2048x2048, .f32⟩
  | .hbm, ⟨38, _⟩ => ⟨S_, .f32⟩
  | .hbm, ⟨39, _⟩ => ⟨S_, .f32⟩
  | .hbm, ⟨40, _⟩ => ⟨S16x16x2048x2048, .i1⟩
  | .hbm, ⟨41, _⟩ => ⟨S16x16x2048x2048, .f32⟩
  | .hbm, ⟨42, _⟩ => ⟨S16x16x2048x2048, .f32⟩
  | .hbm, ⟨43, _⟩ => ⟨S_, .f32⟩
  | .hbm, ⟨44, _⟩ => ⟨S_, .f32⟩
  | .hbm, ⟨45, _⟩ => ⟨S16x16x2048x2048, .f32⟩
  | .hbm, ⟨46, _⟩ => ⟨S16x16x2048x2047, .f32⟩
  | .hbm, ⟨47, _⟩ => ⟨S16x16x2048x1, .f32⟩
  | .hbm, ⟨48, _⟩ => ⟨S_, .f32⟩
  | .hbm, ⟨49, _⟩ => ⟨S16x16x2048x1, .f32⟩
  | .hbm, ⟨50, _⟩ => ⟨S16x16x2048x2048, .f32⟩
  | .hbm, ⟨51, _⟩ => ⟨S16x16x2048x2048, .f32⟩
  | .hbm, ⟨52, _⟩ => ⟨S_, .f32⟩
  | .hbm, ⟨53, _⟩ => ⟨S16x16x2048x2048, .f32⟩
  | .hbm, ⟨54, _⟩ => ⟨S16x16x2048x2048, .f32⟩
  | .hbm, ⟨55, _⟩ => ⟨S16x16x2048x2048, .f32⟩
  | .hbm, ⟨56, _⟩ => ⟨S16x16x2048x2048, .f32⟩
  | .hbm, ⟨57, _⟩ => ⟨S16x16x2048x2048, .i1⟩
  | .hbm, ⟨58, _⟩ => ⟨S16x16x2048x2048, .f32⟩
  | .hbm, ⟨59, _⟩ => ⟨S16x16x2048x2048, .f32⟩
  | .hbm, ⟨60, _⟩ => ⟨S16x16x2048x2048, .f32⟩
  | .hbm, ⟨61, _⟩ => ⟨S16x16x2048x2048, .f32⟩
  | .hbm, ⟨62, _⟩ => ⟨S16x16x2048x2048, .f32⟩
  | .hbm, ⟨63, _⟩ => ⟨S16x16x2048x2048, .f32⟩
  | .hbm, ⟨64, _⟩ => ⟨S16x16x2048x2048, .f32⟩
  | .hbm, ⟨65, _⟩ => ⟨S16x16x2048x2048, .f32⟩
  | .hbm, ⟨66, _⟩ => ⟨S16x16x2048x2048, .f32⟩
  | .hbm, ⟨67, _⟩ => ⟨S16x16x2048x2048, .f32⟩
  | .hbm, ⟨68, _⟩ => ⟨S16x16x2048x2048, .f32⟩
  | .hbm, ⟨69, _⟩ => ⟨S_, .f32⟩
  | .hbm, ⟨70, _⟩ => ⟨S_, .f32⟩
  | .hbm, ⟨71, _⟩ => ⟨S16x16x2048x2048, .i1⟩
  | .hbm, ⟨72, _⟩ => ⟨S16x16x2048x2048, .f32⟩
  | .hbm, ⟨73, _⟩ => ⟨S16x16x2048x2048, .f32⟩
  | .hbm, ⟨74, _⟩ => ⟨S16x16x2048x64, .f32⟩
  | .hbm, ⟨75, _⟩ => ⟨S16x2048x16x64, .f32⟩
  | .hbm, ⟨76, _⟩ => ⟨S32768x1024, .f32⟩
  | .hbm, ⟨77, _⟩ => ⟨S32768x1024, .bf16⟩
  | _, _ => ⟨S16x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Proof.Common.lean ====
/-
  The row arithmetic that several of the layer's calls share, over the extended reals, and the two host reshapes every call
  makes of its arguments, read at an index.
-/
module

public import Idealize.ShloMosaic.PureOps.Ideal
public import Idealize.ShloMosaic.Lib.Pointwise

@[expose] public section

set_option maxRecDepth 16384

noncomputable section

namespace Cert.Proof

open Idealize.ShloMosaic

/-- Entry `k` of a row of width 2048 divided by its root mean square (the mean of squares plus `1e-6` under the root) and
    multiplied by the gains `g`: the layer's RMS norm. The two constants are the f32 values 2048 and `1e-6` as printed. -/
def rms (x g : Fin 2048 → EReal) (k : Fin 2048) : EReal :=
  x k * Ideal.rsqrt (Ideal.div (∑ j, x j * x j) (Ideal.ofBits .f32 0x45000000#32) + Ideal.ofBits .f32 0x358637BD#32) * g k

/-- The batch member of flattened row `r` (2048 positions per member). -/
abbrev memb (r : Fin 32768) : Fin 16 := ⟨r.val / 2048, by omega⟩
/-- The position of flattened row `r` within its batch member. -/
abbrev posn (r : Fin 32768) : Fin 2048 := ⟨r.val % 2048, by omega⟩

/-- Row `r` of the activations flattened over batch and position. -/
theorem rows_at (X : FVec Ideal ⟨3, ![16, 2048, 2048]⟩ .f32)
    (h : Shape.ShapeCasts ⟨3, ![16, 2048, 2048]⟩ ⟨2, ![32768, 2048]⟩) (r : Fin 32768) (k : Fin 2048) :
    shapeCast ⟨2, ![32768, 2048]⟩ X h (ix2 r k) = X (ix3 (memb r) (posn r) k) := by
  pointwise

/-- Row `r` of a gated activation of width 4096 flattened over batch and position. -/
theorem rows4096_at (X : FVec Ideal ⟨3, ![16, 2048, 4096]⟩ .f32)
    (h : Shape.ShapeCasts ⟨3, ![16, 2048, 4096]⟩ ⟨2, ![32768, 4096]⟩) (r : Fin 32768) (k : Fin 4096) :
    shapeCast ⟨2, ![32768, 4096]⟩ X h (ix2 r k) = X (ix3 (memb r) (posn r) k) := by
  pointwise

/-- A gain vector kept as a one-row matrix. -/
theorem gain_at (g : FVec Ideal ⟨1, ![2048]⟩ .f32) (h : Shape.ShapeCasts ⟨1, ![2048]⟩ ⟨2, ![1, 2048]⟩) (k : Fin 2048) :
    shapeCast ⟨2, ![1, 2048]⟩ g h (ix2 0 k) = g (ix1 k) := by
  pointwise

/-- The part of a squared-ReLU feed-forward row that goes through the hidden units of tile `q` (2048 of the 8192): the sum over
    them of the squared positive part of their pre-activation times their output weight. Nothing for `q ≥ 4`. -/
def ffnTile (h : Fin 2048 → EReal) (W1 : Fin 2048 → Fin 8192 → EReal) (W2 : Fin 8192 → Fin 2048 → EReal) (q : ℕ) (n : Fin 2048) :
    EReal :=
  if hq : q < 4 then
    ∑ l : Fin 2048, max (∑ k, h k * W1 k ⟨q * 2048 + l.val, by omega⟩) 0 * max (∑ k, h k * W1 k ⟨q * 2048 + l.val, by omega⟩) 0
      * W2 ⟨q * 2048 + l.val, by omega⟩ n
  else 0

/-- The four tiles together are the whole hidden layer. -/
theorem ffn_tiles (h : Fin 2048 → EReal) (W1 : Fin 2048 → Fin 8192 → EReal) (W2 : Fin 8192 → Fin 2048 → EReal) (n : Fin 2048) :
    ∑ q ∈ Finset.range 4, ffnTile h W1 W2 q n
      = ∑ l : Fin 8192, max (∑ k, h k * W1 k l) 0 * max (∑ k, h k * W1 k l) 0 * W2 l n := by
  rw [Fin.sum_univ_tiles 4 2048 rfl, Finset.sum_range]
  refine Finset.sum_congr rfl fun q _ => ?_
  unfold ffnTile
  rw [dif_pos q.isLt]

/-- A row of the squared-ReLU feed-forward layer: the row plus the squared positive parts of its normed image's
    pre-activations, weighted into the outputs. -/
def ffnRow (x g : Fin 2048 → EReal) (W1 : Fin 2048 → Fin 8192 → EReal) (W2 : Fin 8192 → Fin 2048 → EReal) (n : Fin 2048) : EReal :=
  x n + ∑ l : Fin 8192, max (∑ k, rms x g k * W1 k l) 0 * max (∑ k, rms x g k * W1 k l) 0 * W2 l n

end Cert.Proof

end
-- ==== Proof.Sgu.lean ====
/- The spatial gating unit of the odd layers: LayerNorm of `v`, a mixing of the positions within blocks of 128 (a 128 × 128
   weight for each of 8 channel groups, masked so that a position sees no later chunk of 64), a bias of the position, the
   gate `u`, the output projection and the residual. The kernel takes 256 rows at a time — two blocks of positions — and
   writes the gated values tile by tile, a tile for each position block and channel group, to a scratch that the output
   projection reads back whole.

   `seen` is the mask; `chunkK` / `chunkR` are the two ways in which floor division by 64 is spelled and `mask_at` / `mask_ref`
   show both masks to be `seen`. `gated` is the scratch after the tiles' stores in one formula (`out_pay`), `lnorm` LayerNorm,
   `mix` the mixed value of a row and channel. `ref_at` brings the reference, `out_at` the kernel to the same closed form, and
   `final` states that the arrays are equal. -/
module

public import proofs.«01_k».proof.Proof.Gen.SguIdeal.Frame
public import proofs.«01_k».proof.Proof.Gen.SguRefIdeal.Read
public import proofs.«01_k».proof.Proof.Common
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.Sgu

open Idealize.ShloMosaic Idealize.ShloMosaic.TcCoe Idealize.SL.Sem
open Idealize.ShloMosaic.Pipeline (Dat)
open Cert.SguIdeal Cert.SguIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V; after_results <;> rfl
theorem V1 (c : Dev nD) : (V m c main_v1 : FVec Ideal S32768x4096 .f32)
    = shapeCast S32768x4096 (m ((c : Thread nD τ).loc main_arg1)) shapeCasts_S16x2048x4096_S32768x4096 := by
  unfold V; after_results <;> rfl
theorem V2 (c : Dev nD) : (V m c main_v2 : FVec Ideal S1x2048 .f32)
    = shapeCast S1x2048 (m ((c : Thread nD τ).loc main_arg2)) shapeCasts_S2048_S1x2048 := by
  unfold V; after_results <;> rfl
theorem V3 (c : Dev nD) : (V m c main_v3 : FVec Ideal S1x2048 .f32)
    = shapeCast S1x2048 (m ((c : Thread nD τ).loc main_arg3)) shapeCasts_S2048_S1x2048 := by
  unfold V; after_results <;> rfl
theorem Vw (c : Dev nD) : (V m c main_arg4 : FVec Ideal S8x128x128 .f32) = m ((c : Thread nD τ).loc main_arg4) := by
  unfold V; after_results <;> rfl
theorem V4 (c : Dev nD) : (V m c main_v4 : FVec Ideal S128x8 .f32)
    = transpose S128x8 [1, 0] (m ((c : Thread nD τ).loc main_arg5)) transposes_S8x128_S128x8_1_0 := by
  unfold V; after_results <;> rfl
theorem V5 (c : Dev nD) : (V m c main_v5 : FVec Ideal S2048x2048 .bf16)
    = (truncf .bf16 (m ((c : Thread nD τ).loc main_arg6) : FVec Ideal S2048x2048 .f32) bitsLt_bf16_f32 : FVec Ideal S2048x2048 .bf16) := by
  unfold V; after_results <;> rfl

theorem row_lt (t : Fin cfg0.N) (a : Fin 256) : 256 * t.val + a.val < 32768 := by
  have := t.isLt; have : cfg0.N = 128 := N_0; omega

/-- The flattened row that row `a` of point `t`'s block is. -/
abbrev row (t : Fin cfg0.N) (a : Fin 256) : Fin 32768 := ⟨256 * t.val + a.val, row_lt t a⟩

/-- Which block of each array point `t` takes: row block `t` of the activations and of both halves of the gated activation, and
    the whole of every weight. -/
theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0, 0] ∧ win0_6.index t = ![0, 0]
    ∧ win0_7.index t = ![0, 0] ∧ win0_8.index t = ![t.val, 0] :=
  (by decide +kernel : ∀ t : Fin grid0.N, _)

theorem blk0 (c : Dev nD) (t : Fin cfg0.N) (a : Fin 256) (b : Fin 2048) :
    iblk m c 0 t (ix2 a b) = V m c main_v0 (ix2 (row t a) b) := by
  blk_ext! [iblk, idx t]
theorem blk1 (c : Dev nD) (t : Fin cfg0.N) (a : Fin 256) (b : Fin 2048) :
    iblk m c 1 t (ix2 a b) = V m c main_v1 (ix2 (row t a) ⟨b.val, by omega⟩) := by
  blk_ext! [iblk, idx t]
theorem blk2 (c : Dev nD) (t : Fin cfg0.N) (a : Fin 256) (b : Fin 2048) :
    iblk m c 2 t (ix2 a b) = V m c main_v1 (ix2 (row t a) ⟨2048 + b.val, by omega⟩) := by
  blk_ext! [iblk, idx t]
theorem blk3 (c : Dev nD) (t : Fin cfg0.N) (b : Fin 2048) : iblk m c 3 t (ix2 0 b) = V m c main_v2 (ix2 0 b) := by
  blk_ext! [iblk, idx t]
theorem blk4 (c : Dev nD) (t : Fin cfg0.N) (b : Fin 2048) : iblk m c 4 t (ix2 0 b) = V m c main_v3 (ix2 0 b) := by
  blk_ext! [iblk, idx t]
theorem blk5 (c : Dev nD) (t : Fin cfg0.N) (g : Fin 8) (a b : Fin 128) : iblk m c 5 t (ix3 g a b) = V m c main_arg4 (ix3 g a b) := by
  blk_ext! [iblk, idx t]
theorem blk6 (c : Dev nD) (t : Fin cfg0.N) (a : Fin 128) (g : Fin 8) : iblk m c 6 t (ix2 a g) = V m c main_v4 (ix2 a g) := by
  blk_ext! [iblk, idx t]
theorem blk7 (c : Dev nD) (t : Fin cfg0.N) (a b : Fin 2048) : iblk m c 7 t (ix2 a b) = V m c main_v5 (ix2 a b) := by
  blk_ext! [iblk, idx t]
theorem emb8 (t : Fin cfg0.N) (a : Fin 256) (b : Fin 2048) :
    ((View.whole main_v6).slice (win0_8.rect t)).emb (ix2 a b) = ix2 (row t a) b := by
  blk_ext! [idx t]

theorem bias_at (B : FVec Ideal S8x128 .f32) (a : Fin 128) (g : Fin 8) :
    transpose S128x8 [1, 0] B transposes_S8x128_S128x8_1_0 (ix2 a g) = B (ix2 g a) := by
  pointwise

/-- The arguments of the call by coordinates of the flattened row: the activations, the gate and the gated half, the norm's gains
    and shifts, the mixing weights, the biases and the output weights. -/
abbrev xat (c : Dev nD) (r : Fin 32768) (k : Fin 2048) : EReal :=
  (m ((c : Thread nD τ).loc main_arg0) : FVec Ideal S16x2048x2048 .f32) (ix3 (memb r) (posn r) k)
abbrev zat (c : Dev nD) (r : Fin 32768) (k : Fin 4096) : EReal :=
  (m ((c : Thread nD τ).loc main_arg1) : FVec Ideal S16x2048x4096 .f32) (ix3 (memb r) (posn r) k)

theorem iblk0 (c : Dev nD) (t : Fin cfg0.N) (a : Fin 256) (b : Fin 2048) : iblk m c 0 t (ix2 a b) = xat m c (row t a) b := by
  rw [blk0, V0]; exact rows_at _ _ _ _
theorem iblk1 (c : Dev nD) (t : Fin cfg0.N) (a : Fin 256) (b : Fin 2048) :
    iblk m c 1 t (ix2 a b) = zat m c (row t a) ⟨b.val, by omega⟩ := by
  rw [blk1, V1]; exact rows4096_at _ _ _ _
theorem iblk2 (c : Dev nD) (t : Fin cfg0.N) (a : Fin 256) (b : Fin 2048) :
    iblk m c 2 t (ix2 a b) = zat m c (row t a) ⟨2048 + b.val, by omega⟩ := by
  rw [blk2, V1]; exact rows4096_at _ _ _ _
theorem iblk3 (c : Dev nD) (t : Fin cfg0.N) (b : Fin 2048) :
    iblk m c 3 t (ix2 0 b) = (m ((c : Thread nD τ).loc main_arg2)) (ix1 b) := by
  rw [blk3, V2]; exact gain_at _ _ _
theorem iblk4 (c : Dev nD) (t : Fin cfg0.N) (b : Fin 2048) :
    iblk m c 4 t (ix2 0 b) = (m ((c : Thread nD τ).loc main_arg3)) (ix1 b) := by
  rw [blk4, V3]; exact gain_at _ _ _
theorem iblk6 (c : Dev nD) (t : Fin cfg0.N) (a : Fin 128) (g : Fin 8) :
    iblk m c 6 t (ix2 a g) = (m ((c : Thread nD τ).loc main_arg5)) (ix2 g a) := by
  rw [blk6, V4]; exact bias_at _ _ _

/-- Position `s` of a block of 128 is seen from position `t` when its chunk of 64 is not later. -/
def seen (t s : Fin 128) : BitVec 1 := if s.val / 64 ≤ t.val / 64 then 1#1 else 0#1

theorem seen_eq : ∀ a b : Fin 2, IntOp.cmpi .sle (BitVec.ofNat 32 b.val) (BitVec.ofNat 32 a.val) = if b.val ≤ a.val then 1#1 else 0#1 := by
  decide

/-- The kernel's floor division of a position by 64. -/
def chunkK (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

theorem chunkK_eq : ∀ t : Fin 128, chunkK (BitVec.ofNat 32 t.val) = BitVec.ofNat 32 (t.val / 64) := by
  decide +kernel

/-- The host's floor division of a position by 64. -/
def chunkR (x : BitVec 32) : BitVec 32 :=
  Scalar.select
    (IntOp.andi
      (IntOp.cmpi .ne (if x = 0 then 0 else if x.msb = true then -1 else 1 : BitVec 32)
        (if (64#32 : BitVec 32) = 0 then 0 else if (64#32 : BitVec 32).msb = true then -1 else 1))
      (IntOp.cmpi .ne (IntOp.remsi ArithUnit.host x 64#32) 0#32))
    (IntOp.subi (IntOp.divsi ArithUnit.host x 64#32) 1#32)
    (IntOp.divsi ArithUnit.host x 64#32)

theorem chunkR_eq : ∀ t : Fin 128, chunkR (BitVec.ofNat 32 t.val) = BitVec.ofNat 32 (t.val / 64) := by
  decide +kernel

/-- The gated mixture of a block of 256 rows, entry by entry: the gate times the masked mixture of the group's lane over the 128
    positions of the row's block, shifted by the position's bias. -/
def gated (vn : FVec Ideal S256x2048 .bf16) (M : IVec S128x128 1) (u : FVec Ideal S256x2048 .f32) (ws : FVec Ideal S8x128x128 .f32)
    (bs : FVec Ideal S128x8 .f32) (y : S256x2048.Idx) : EReal :=
  u y * (∑ s : Fin 128, Scalar.select (M (ix2 ⟨(y 0).val % 128, Nat.mod_lt _ (by decide)⟩ s))
      (ws (ix3 ⟨(y 1).val / 256, by have : (y 1).val < 2048 := (y 1).isLt; omega⟩ ⟨(y 0).val % 128, Nat.mod_lt _ (by decide)⟩ s)) 0
      * vn (ix2 ⟨(y 0).val / 128 * 128 + s.val, by have : (y 0).val < 256 := (y 0).isLt; omega⟩ ⟨(y 1).val, (y 1).isLt⟩)
    + bs (ix2 ⟨(y 0).val % 128, Nat.mod_lt _ (by decide)⟩ ⟨(y 1).val / 256, by have : (y 1).val < 2048 := (y 1).isLt; omega⟩))

/-- The positions' mask as the kernel computes it. -/
abbrev maskK : IVec S128x128 1 := k0_pay8 (iota Kind.tc S128x128 32 [0] iota_S128x128_d0_w32) (64#32) k0_pay5 k0_pay6 k0_pay7

/-- The kernel's mask is `seen`. -/
theorem mask_at (t s : Fin 128) : maskK (ix2 t s) = seen t s := by
  pointwise [maskK, k0_pay8, k0_pay5, k0_pay6, k0_pay7]
  change IntOp.cmpi .sle (chunkK (BitVec.ofNat 32 s.val)) (chunkK (BitVec.ofNat 32 t.val)) = _
  rw [chunkK_eq, chunkK_eq]
  exact seen_eq ⟨t.val / 64, by omega⟩ ⟨s.val / 64, by omega⟩

/-- A load of the whole scratch reads what the stores left there. -/
theorem load_whole {sig : RefSig} {κ : Kind} {sp : Space} (v : View sig κ sp S256x2048 .bf16) (L : List (View.Piece (Elt Ideal) S256x2048 .bf16))
    (inb : ∀ a, (![0, 0] : Fin 2 → Nat) a + (![256, 2048] : Fin 2 → Nat) a ≤ S256x2048.size a) (y : S256x2048.Idx) :
    v.readCov L (Rect.unit (s := S256x2048) ![0, 0] ![256, 2048] inb).toLoadRect y = View.canon L y := by
  rw [View.readCov_eq_canon']
  exact congrFun (View.ld_unit_zero (S := S256x2048) (off := ![0, 0]) (by funext a; fin_cases a <;> rfl) inb (View.canon L)) y

theorem out_pay (c : Dev nD) (t : Fin cfg0.N) : outsAt0 m c t
    = k0_pay3 (iblk m c 0 t) (gated (k0_pay4 (iblk m c 2 t) (iblk m c 3 t) (iblk m c 4 t)) maskK (iblk m c 1 t) (iblk m c 5 t) (iblk m c 6 t)) (iblk m c 7 t) := by
  unfold outsAt0
  frame_out
  refine congrArg (fun z => k0_pay3 (F := Ideal) (iblk m c 0 t) z (iblk m c 7 t)) ?_
  funext y
  rw [load_whole]
  have e9 : ∀ W, k0_pay9 (F := Ideal) (iota Kind.tc S128x128 32 [0] iota_S128x128_d0_w32) (64#32) k0_pay5 k0_pay6 k0_pay7 W = k0_pay14 maskK W := fun _ => rfl
  simp only [k0_pay10, e9]
  change View.canon _ _ = _
  unfold maskK
  generalize k0_pay8 (iota Kind.tc S128x128 32 [0] iota_S128x128_d0_w32) (64#32) k0_pay5 k0_pay6 k0_pay7 = M
  generalize k0_pay4 (F := Ideal) (iblk m c 2 t) (iblk m c 3 t) (iblk m c 4 t) = vn
  generalize iblk m c 1 t = u
  generalize iblk m c 5 t = ws
  generalize iblk m c 6 t = bs
  canon_tiles x h
  all_goals (open_payloads; pointwise [gated]; blk_point [])

/-- Entry `k` of a row of width 2048 normed to mean 0 and variance 1 (with `1e-5` under the root), scaled by `g` and shifted by
    `b`. The constants are the f32 values 2048 and `1e-5` as printed. -/
def lnorm (v g b : Fin 2048 → EReal) (k : Fin 2048) : EReal :=
  (v k - Ideal.div (∑ j, v j) (Ideal.ofBits .f32 0x45000000#32))
    * Ideal.rsqrt (Ideal.div (∑ l, (v l - Ideal.div (∑ j, v j) (Ideal.ofBits .f32 0x45000000#32))
        * (v l - Ideal.div (∑ j, v j) (Ideal.ofBits .f32 0x45000000#32))) (Ideal.ofBits .f32 0x45000000#32)
        + Ideal.ofBits .f32 0x3727C5AC#32) * g k + b k

theorem pay4_at (v : FVec Ideal S256x2048 .f32) (g b : FVec Ideal S1x2048 .f32) (a : Fin 256) (k : Fin 2048) :
    k0_pay4 (F := Ideal) v g b (ix2 a k) = lnorm (fun j => v (ix2 a j)) (fun j => g (ix2 0 j)) (fun j => b (ix2 0 j)) k := by
  pointwise [k0_pay4]
  rfl

theorem pay3_at (x : FVec Ideal S256x2048 .f32) (y : FVec Ideal S256x2048 .bf16) (w : FVec Ideal S2048x2048 .bf16) (a : Fin 256) (n : Fin 2048) :
    k0_pay3 (F := Ideal) x y w (ix2 a n) = x (ix2 a n) + ∑ k, y (ix2 a k) * w (ix2 k n) := by
  pointwise [k0_pay3]

/-- The gated mixture at row `r` (flattened) and lane `k`: the gate times the mixture of the normed lane over the positions of the
    row's block of 128 that are seen from the row, plus the bias of its position. -/
def mix (z : Fin 32768 → Fin 4096 → EReal) (g b : Fin 2048 → EReal) (w : Fin 8 → Fin 128 → Fin 128 → EReal)
    (bs : Fin 8 → Fin 128 → EReal) (r : Fin 32768) (k : Fin 2048) : EReal :=
  z r ⟨k.val, by omega⟩ * (∑ s : Fin 128, Scalar.select (seen ⟨r.val % 128, by omega⟩ s)
      (w ⟨k.val / 256, by omega⟩ ⟨r.val % 128, by omega⟩ s) 0
      * lnorm (fun j => z ⟨r.val / 128 * 128 + s.val, by omega⟩ ⟨2048 + j.val, by omega⟩) g b k
    + bs ⟨k.val / 256, by omega⟩ ⟨r.val % 128, by omega⟩)

section
open Cert.SguRefIdeal.Read

/-- The reference's mask is `seen`. -/
theorem mask_ref (t s : Fin 128) : val_main_v33 (F := Ideal) (ix2 t s) = seen t s := by
  pointwise [val_main_v33, val_main_v32, val_main_v31, val_main_v30, val_main_v29, val_main_v28, val_main_v27, val_main_c, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  change IntOp.cmpi .sle (chunkR (BitVec.ofNat 32 s.val)) (chunkR (BitVec.ofNat 32 t.val)) = _
  rw [chunkR_eq, chunkR_eq]
  exact seen_eq ⟨t.val / 64, by omega⟩ ⟨s.val / 64, by omega⟩

theorem ln_ref (z : FVec Ideal S16x2048x4096 .f32) (g b : FVec Ideal S2048 .f32) (e : Fin 16) (s k : Fin 2048) :
    val_main_v25 (F := Ideal) z g b (ix3 e s k)
      = lnorm (fun j => z (ix3 e s ⟨2048 + j.val, by omega⟩)) (fun j => g (ix1 j)) (fun j => b (ix1 j)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3]
  rfl

theorem mix_ref (z : FVec Ideal S16x2048x4096 .f32) (g b : FVec Ideal S2048 .f32) (w : FVec Ideal S8x128x128 .f32)
    (bs : FVec Ideal S8x128 .f32) (r : Fin 32768) (k : Fin 2048) :
    val_main_v43 (F := Ideal) z g b w bs (ix3 (memb r) (posn r) k)
      = mix (fun r k => z (ix3 (memb r) (posn r) k)) (fun j => g (ix1 j)) (fun j => b (ix1 j)) (fun q t s => w (ix3 q t s))
          (fun q t => bs (ix2 q t)) r k := by
  pointwise [val_main_v43, val_main_v42, val_main_v41, val_main_v40, val_main_v39, val_main_v38, val_main_v37, val_main_v36, val_main_v35, val_main_v34, val_main_call1_v0, val_main_call1_v1, val_main_call1_v2, val_main_cst_4, val_main_v26, val_main_v0]
  have e : r.val % 2048 % 128 = r.val % 128 := by omega
  have hz : (id (constant (F := Ideal) Cert.SguRefIdeal.S_ .f32 0#32) ix0 : EReal) = 0 := by
    show Ideal.ofBits .f32 0#32 = 0
    exact Ideal.ofBits_zero_f32
  simp only [e, hz]
  unfold mix
  refine congrArg₂ (· * ·) rfl (congrArg₂ (· + ·) (Finset.sum_congr rfl fun s _ => ?_) rfl)
  have e1 : memb ⟨r.val / 128 * 128 + s.val, by omega⟩ = memb r := Fin.ext (by show (r.val / 128 * 128 + s.val) / 2048 = r.val / 2048; omega)
  have e2 : posn ⟨r.val / 128 * 128 + s.val, by omega⟩ = ⟨r.val % 2048 / 128 * 128 + s.val, by omega⟩ :=
    Fin.ext (by show (r.val / 128 * 128 + s.val) % 2048 = r.val % 2048 / 128 * 128 + s.val; omega)
  rw [ln_ref, mask_ref, mul_comm]
  refine congrArg₂ (· * ·) rfl (congrArg (fun f => lnorm f _ _ k) (funext fun j => ?_))
  show z (ix3 (memb r) ⟨r.val % 2048 / 128 * 128 + s.val, _⟩ _) = z (ix3 (memb ⟨r.val / 128 * 128 + s.val, _⟩) (posn ⟨r.val / 128 * 128 + s.val, _⟩) _)
  rw [e1, e2]

/-- The reference at a flattened row and a column. -/
theorem ref_at (X : FVec Ideal S16x2048x2048 .f32) (z : FVec Ideal S16x2048x4096 .f32) (g b : FVec Ideal S2048 .f32)
    (w : FVec Ideal S8x128x128 .f32) (bs : FVec Ideal S8x128 .f32) (wo : FVec Ideal S2048x2048 .f32) (r : Fin 32768) (n : Fin 2048) :
    val_main_v46 (F := Ideal) X z g b w bs wo (ix2 r n) = X (ix3 (memb r) (posn r) n)
      + ∑ k, mix (fun r k => z (ix3 (memb r) (posn r) k)) (fun j => g (ix1 j)) (fun j => b (ix1 j)) (fun q t s => w (ix3 q t s))
          (fun q t => bs (ix2 q t)) r k * wo (ix2 k n) := by
  pointwise [val_main_v46, val_main_v45, val_main_v44]
  simp only [mix_ref]
end

theorem out_at (c : Dev nD) (t : Fin cfg0.N) (a : Fin 256) (n : Fin 2048) :
    outsAt0 m c t (ix2 a n) = Cert.SguRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t a) n) := by
  rw [out_pay, pay3_at, ref_at, iblk0]
  refine congrArg₂ (· + ·) rfl (Finset.sum_congr rfl fun k _ => ?_)
  rw [blk7, V5]
  refine congrArg₂ (· * ·) ?_ rfl
  have e : (256 * t.val + a.val) % 128 = a.val % 128 := by omega
  have e' : ∀ s : Fin 128, row t ⟨a.val / 128 * 128 + s.val, by omega⟩ = ⟨(256 * t.val + a.val) / 128 * 128 + s.val, by have := row_lt t a; omega⟩ :=
    fun s => Fin.ext (by show 256 * t.val + (a.val / 128 * 128 + s.val) = (256 * t.val + a.val) / 128 * 128 + s.val; omega)
  unfold gated mix
  simp only [e]
  rw [iblk1]
  refine congrArg₂ (· * ·) rfl (congrArg₂ (· + ·) (Finset.sum_congr rfl fun s _ => ?_) ?_)
  · rw [mask_at, blk5, Vw, pay4_at]
    simp only [iblk2, iblk3, iblk4]
    refine congrArg₂ (· * ·) rfl (congrArg (fun f => lnorm f _ _ k) (funext fun j => ?_))
    exact congrArg (fun q => zat m c q ⟨2048 + j.val, by omega⟩) (e' s)
  · exact iblk6 m c t _ _

/-- The array the call returns is the reference's. -/
theorem final (c : Dev nD) : (dats m 0 c).arrAt 8 (cfgs 0).N
    = Cert.SguRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  idx_vars y
  rw [after0_8, emb8]
  exact out_at m c t _ _

end Cert.Proof.Sgu

end
-- ==== Proof.FfnFinal.lean ====
/- The last feed-forward network, with the trunk's final RMSNorm in the same call: as in module `Ffn`, and at the last hidden
   tile the accumulated rows are normed with the final gains before they are written. The array that this call returns is
   the trunk's result.

   `outA` / `outB` / `outC` say what a first, a middle and the last point of a row block leave, `acc` what the block holds after
   `j` tiles, `out_at` that after the last it holds the reference's row, and `final` that the arrays are equal. -/
module

public import proofs.«01_k».proof.Proof.Gen.FfnFinalIdeal.Frame
public import proofs.«01_k».proof.Proof.Gen.FfnFinalRefIdeal.Read
public import proofs.«01_k».proof.Proof.Common
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.FfnFinal

open Idealize.ShloMosaic Idealize.ShloMosaic.TcCoe Idealize.SL.Sem
open Idealize.ShloMosaic.Pipeline (Dat)
open Cert.FfnFinalIdeal Cert.FfnFinalIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V; after_results <;> rfl
theorem V1 (c : Dev nD) : (V m c main_v1 : FVec Ideal S1x2048 .f32)
    = shapeCast S1x2048 (m ((c : Thread nD τ).loc main_arg1)) shapeCasts_S2048_S1x2048 := by
  unfold V; after_results <;> rfl
theorem V2 (c : Dev nD) : (V m c main_v2 : FVec Ideal S2048x8192 .bf16)
    = (truncf .bf16 (m ((c : Thread nD τ).loc main_arg2) : FVec Ideal S2048x8192 .f32) bitsLt_bf16_f32 : FVec Ideal S2048x8192 .bf16) := by
  unfold V; after_results <;> rfl
theorem V3 (c : Dev nD) : (V m c main_v3 : FVec Ideal S8192x2048 .bf16)
    = (truncf .bf16 (m ((c : Thread nD τ).loc main_arg3) : FVec Ideal S8192x2048 .f32) bitsLt_bf16_f32 : FVec Ideal S8192x2048 .bf16) := by
  unfold V; after_results <;> rfl
theorem V4 (c : Dev nD) : (V m c main_v4 : FVec Ideal S1x2048 .f32)
    = shapeCast S1x2048 (m ((c : Thread nD τ).loc main_arg4)) shapeCasts_S2048_S1x2048 := by
  unfold V; after_results <;> rfl

theorem row_lt (t : Fin cfg0.N) (a : Fin 512) : 512 * (t.val / 4) + a.val < 32768 := by
  have := t.isLt; have : cfg0.N = 256 := N_0; omega
theorem tile_lt (t : Fin cfg0.N) (b : Fin 2048) : t.val % 4 * 2048 + b.val < 8192 := by omega

/-- The flattened row that row `a` of point `t`'s block is. -/
abbrev row (t : Fin cfg0.N) (a : Fin 512) : Fin 32768 := ⟨512 * (t.val / 4) + a.val, row_lt t a⟩

/-- Which block of each array point `t` takes: row block `t / 4`, hidden tile `t % 4`. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

theorem blk0 (c : Dev nD) (t : Fin cfg0.N) (a : Fin 512) (b : Fin 2048) :
    iblk m c 0 t (ix2 a b) = V m c main_v0 (ix2 (row t a) b) := by
  blk_ext! [iblk, idx t]
theorem blk1 (c : Dev nD) (t : Fin cfg0.N) (b : Fin 2048) : iblk m c 1 t (ix2 0 b) = V m c main_v1 (ix2 0 b) := by
  blk_ext! [iblk, idx t]
theorem blk4 (c : Dev nD) (t : Fin cfg0.N) (b : Fin 2048) : iblk m c 4 t (ix2 0 b) = V m c main_v4 (ix2 0 b) := by
  blk_ext! [iblk, idx t]
/-- The activations' block: the point's 512 rows. -/
theorem iblk0 (c : Dev nD) (t : Fin cfg0.N) (a : Fin 512) (b : Fin 2048) : iblk m c 0 t (ix2 a b) =
   (m ((c : Thread nD τ).loc main_arg0)) (ix3 (memb (row t a)) (posn (row t a)) b) := by
  rw [blk0, V0]
  exact rows_at _ _ _ _
/-- The gains' block. -/
theorem iblk1 (c : Dev nD) (t : Fin cfg0.N) (b : Fin 2048) : iblk m c 1 t (ix2 0 b) =
   (m ((c : Thread nD τ).loc main_arg1)) (ix1 b) := by
  rw [blk1, V1]
  exact gain_at _ _ _
/-- The first weight's block: the columns of the point's hidden tile. -/
theorem iblk2 (c : Dev nD) (t : Fin cfg0.N) (a : Fin 2048) (b : Fin 2048) : iblk m c 2 t (ix2 a b) =
   V m c main_v2 (ix2 a ⟨t.val % 4 * 2048 + b.val, tile_lt t b⟩) := by
  blk_ext! [iblk, idx t]
/-- The second weight's block: the rows of the point's hidden tile. -/
theorem iblk3 (c : Dev nD) (t : Fin cfg0.N) (a : Fin 2048) (b : Fin 2048) : iblk m c 3 t (ix2 a b) =
   V m c main_v3 (ix2 ⟨t.val % 4 * 2048 + a.val, tile_lt t a⟩ b) := by
  blk_ext! [iblk, idx t]
/-- The final norm's gains. -/
theorem iblk4 (c : Dev nD) (t : Fin cfg0.N) (b : Fin 2048) : iblk m c 4 t (ix2 0 b) =
   (m ((c : Thread nD τ).loc main_arg4)) (ix1 b) := by
  rw [blk4, V4]
  exact gain_at _ _ _
/-- Where the result's block lies in the result. -/
theorem emb5 (t : Fin cfg0.N) (a : Fin 512) (b : Fin 2048) :
    ((View.whole main_v5).slice (win0_5.rect t)).emb (ix2 a b) = ix2 (row t a) b := by
  blk_ext! [idx t]

theorem pay1_at (x : FVec Ideal S512x2048 .f32) (a : Fin 512) (k : Fin 2048) : k0_pay1 (F := Ideal) x (ix2 a k) = x (ix2 a k) := by
  pointwise [k0_pay1]
/-- The normed block. -/
theorem pay2_at (x : FVec Ideal S512x2048 .f32) (g : FVec Ideal S1x2048 .f32) (a : Fin 512) (k : Fin 2048) :
    k0_pay2 (F := Ideal) x g (ix2 a k) = rms (fun j => x (ix2 a j)) (fun j => g (ix2 0 j)) k := by
  pointwise [k0_pay2, k0_pay1]
  rfl
/-- One tile's step: what the accumulator held plus the tile's squared activations times its output weights. -/
theorem pay3_at (h : FVec Ideal S512x2048 .bf16) (w : FVec Ideal S2048x2048 .bf16) (acc : FVec Ideal S512x2048 .f32)
    (v : FVec Ideal S2048x2048 .bf16) (a : Fin 512) (n : Fin 2048) :
    k0_pay3 (F := Ideal) h w acc v (ix2 a n) = acc (ix2 a n)
      + ∑ l : Fin 2048, max (∑ k, h (ix2 a k) * w (ix2 k l)) 0 * max (∑ k, h (ix2 a k) * w (ix2 k l)) 0 * v (ix2 l n) := by
  pointwise [k0_pay3]

/-- The arguments of the call by coordinates: the row of activations under row `a` of point `t`, the gains, the two weights. -/
abbrev xrow (c : Dev nD) (t : Fin cfg0.N) (a : Fin 512) (k : Fin 2048) : EReal :=
  (m ((c : Thread nD τ).loc main_arg0) : FVec Ideal S16x2048x2048 .f32) (ix3 (memb (row t a)) (posn (row t a)) k)
abbrev gain (c : Dev nD) (k : Fin 2048) : EReal := (m ((c : Thread nD τ).loc main_arg1) : FVec Ideal S2048 .f32) (ix1 k)
abbrev w1 (c : Dev nD) (k : Fin 2048) (l : Fin 8192) : EReal := (m ((c : Thread nD τ).loc main_arg2) : FVec Ideal S2048x8192 .f32) (ix2 k l)
abbrev w2 (c : Dev nD) (l : Fin 8192) (n : Fin 2048) : EReal := (m ((c : Thread nD τ).loc main_arg3) : FVec Ideal S8192x2048 .f32) (ix2 l n)

/-- At the first tile of a row block: the accumulator starts at the block itself, and the normed block is kept. -/
theorem outA (c : Dev nD) (t : Fin cfg0.N) (h : t.val % 4 = 0) (h' : ¬ t.val % 4 = 3) :
   (outsAt0 m c t.val t.isLt) = (k0_pay3 (k0_pay2 (iblk m c 0 t) (iblk m c 1 t)) (iblk m c 2 t) (k0_pay1 (iblk m c 0 t)) (iblk m c 3 t), k0_pay2 (iblk m c 0 t) (iblk m c 1 t)) := by
  rw [outsAt0_A m c t h h']
  frame_out
/-- The point before `t`. -/
abbrev before (t : Fin cfg0.N) : Fin cfg0.N := ⟨t.val - 1, Nat.lt_of_le_of_lt (Nat.sub_le _ _) t.isLt⟩
/-- At a later tile: one step over what the point before left. -/
theorem outB (c : Dev nD) (t : Fin cfg0.N) (h : ¬ t.val % 4 = 0) (h' : ¬ t.val % 4 = 3) :
   (outsAt0 m c t.val t.isLt).1 = k0_pay3 (outsAt0 m c (before t).val (before t).isLt).2 (iblk m c 2 t) (outsAt0 m c (before t).val (before t).isLt).1 (iblk m c 3 t) := by
  rw [outsAt0_B m c t h h']
  frame_out
  exact congrArg (k0_pay3 · _ _ _) ((Memref.isWhole_whole _).read_unread _)
theorem keptB (c : Dev nD) (t : Fin cfg0.N) (h : ¬ t.val % 4 = 0) (h' : ¬ t.val % 4 = 3) :
   (outsAt0 m c t.val t.isLt).2 = (outsAt0 m c (before t).val (before t).isLt).2 := by
  rw [outsAt0_B m c t h h']
  rfl

section
open Cert.FfnFinalRefIdeal.Read
/-- The reference's sum of a row and its feed-forward image. -/
theorem ref_row (X : FVec Ideal S16x2048x2048 .f32) (g : FVec Ideal S2048 .f32) (W1 : FVec Ideal S2048x8192 .f32)
    (W2 : FVec Ideal S8192x2048 .f32) (b : Fin 16) (s n : Fin 2048) : val_main_v17 (F := Ideal) X g W1 W2 (ix3 b s n)
      = ffnRow (fun k => X (ix3 b s k)) (fun k => g (ix1 k)) (fun k l => W1 (ix2 k l)) (fun l n => W2 (ix2 l n)) n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst, ffnRow]
  rfl
/-- The reference at a flattened row and a column. -/
theorem ref_at (X : FVec Ideal S16x2048x2048 .f32) (g : FVec Ideal S2048 .f32) (W1 : FVec Ideal S2048x8192 .f32)
    (W2 : FVec Ideal S8192x2048 .f32) (gf : FVec Ideal S2048 .f32) (r : Fin 32768) (n : Fin 2048) :
    val_main_v31 (F := Ideal) X g W1 W2 gf (ix2 r n)
      = rms (ffnRow (fun k => X (ix3 (memb r) (posn r) k)) (fun k => g (ix1 k)) (fun k l => W1 (ix2 k l)) (fun l n => W2 (ix2 l n)))
          (fun k => gf (ix1 k)) n := by
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [ref_row]
  rfl
end

/-- One step at point `t` over an accumulator, the kept block being the normed rows: the tile's part is added. -/
theorem step_at (c : Dev nD) (t : Fin cfg0.N) (a : Fin 512) (h : FVec Ideal S512x2048 .bf16) (acc : FVec Ideal S512x2048 .f32)
    (hh : ∀ k, h (ix2 a k) = rms (xrow m c t a) (gain m c) k) (n : Fin 2048) :
    k0_pay3 (F := Ideal) h (iblk m c 2 t) acc (iblk m c 3 t) (ix2 a n)
      = acc (ix2 a n) + ffnTile (rms (xrow m c t a) (gain m c)) (w1 m c) (w2 m c) (t.val % 4) n := by
  rw [pay3_at]
  unfold ffnTile
  rw [dif_pos (Nat.mod_lt _ (by decide))]
  simp only [hh, iblk2, iblk3, V2, V3]
  rfl

theorem kept0 (c : Dev nD) (t : Fin cfg0.N) (a : Fin 512) (k : Fin 2048) :
    k0_pay2 (F := Ideal) (iblk m c 0 t) (iblk m c 1 t) (ix2 a k) = rms (xrow m c t a) (gain m c) k := by
  rw [pay2_at]
  simp only [iblk0, iblk1]

theorem row_before (t : Fin cfg0.N) (h : ¬ t.val % 4 = 0) (a : Fin 512) : row (before t) a = row t a :=
  Fin.ext (by show 512 * ((t.val - 1) / 4) + a.val = 512 * (t.val / 4) + a.val; omega)

theorem xrow_before (c : Dev nD) (t : Fin cfg0.N) (h : ¬ t.val % 4 = 0) (a : Fin 512) :
    xrow m c (before t) a = xrow m c t a := by
  unfold xrow
  rw [row_before t h]

/-- After tile `j` of a row block: the kept block is the normed rows, and the accumulator is the rows plus the parts of the
    tiles so far. -/
theorem acc (c : Dev nD) (j : ℕ) (hj : j < 3) : ∀ t : Fin cfg0.N, t.val % 4 = j →
    (∀ a k, (outsAt0 m c t.val t.isLt).2 (ix2 a k) = rms (xrow m c t a) (gain m c) k)
      ∧ ∀ a n, (outsAt0 m c t.val t.isLt).1 (ix2 a n) = xrow m c t a n
          + ∑ q ∈ Finset.range (j + 1), ffnTile (rms (xrow m c t a) (gain m c)) (w1 m c) (w2 m c) q n := by
  induction j with
  | zero =>
    intro t h
    rw [outA m c t h (by omega)]
    refine ⟨kept0 m c t, fun a n => ?_⟩
    show k0_pay3 (F := Ideal) _ _ _ _ (ix2 a n) = _
    rw [step_at m c t a _ _ (kept0 m c t a), pay1_at, iblk0, Finset.sum_range_one, h]
  | succ j ih =>
    intro t h
    have h0 : ¬ t.val % 4 = 0 := by omega
    have hb := ih (by omega) (before t) (show (t.val - 1) % 4 = j by omega)
    simp only [xrow_before m c t h0] at hb
    have hk : ∀ a k, (outsAt0 m c t.val t.isLt).2 (ix2 a k) = rms (xrow m c t a) (gain m c) k := fun a k => by
      rw [keptB m c t h0 (by omega)]
      exact hb.1 a k
    refine ⟨hk, fun a n => ?_⟩
    rw [outB m c t h0 (by omega), step_at m c t a _ _ (fun k => hb.1 a k), hb.2 a n, xrow_before m c t h0, Finset.sum_range_succ _ (j + 1), h, add_assoc]

/-- At the last tile: one step over what the point before left, then the final norm of the accumulated rows. -/
theorem outC (c : Dev nD) (t : Fin cfg0.N) (h : ¬ t.val % 4 = 0) (h' : t.val % 4 = 3) :
   (outsAt0 m c t.val t.isLt).1 = k0_pay4 (k0_pay3 (outsAt0 m c (before t).val (before t).isLt).2 (iblk m c 2 t) (outsAt0 m c (before t).val (before t).isLt).1 (iblk m c 3 t)) (iblk m c 4 t) := by
  rw [outsAt0_C m c t h h']
  frame_out
  exact congrArg (fun z => k0_pay4 (k0_pay3 z _ _ _) _) ((Memref.isWhole_whole _).read_unread _)

theorem pay4_at (x : FVec Ideal S512x2048 .f32) (g : FVec Ideal S1x2048 .f32) (a : Fin 512) (k : Fin 2048) :
    k0_pay4 (F := Ideal) x g (ix2 a k) = rms (fun j => x (ix2 a j)) (fun j => g (ix2 0 j)) k := by
  pointwise [k0_pay4]
  rfl

/-- After the last tile the block holds the reference's rows. -/
theorem out_at (c : Dev nD) (t : Fin cfg0.N) (h : t.val % 4 = 3) (a : Fin 512) (n : Fin 2048) :
    (outsAt0 m c t.val t.isLt).1 (ix2 a n) = Cert.FfnFinalRefIdeal.Read.val_main_v31 (F := Ideal) (m ((c : Thread nD τ).loc main_arg0))
      (m ((c : Thread nD τ).loc main_arg1)) (m ((c : Thread nD τ).loc main_arg2)) (m ((c : Thread nD τ).loc main_arg3)) (m ((c : Thread nD τ).loc main_arg4))
      (ix2 (row t a) n) := by
  rw [ref_at]
  have h0 : ¬ t.val % 4 = 0 := by omega
  have hb := acc m c 2 (by decide) (before t) (show (t.val - 1) % 4 = 2 by omega)
  simp only [xrow_before m c t h0] at hb
  rw [outC m c t h0 h, pay4_at]
  have hrow : ∀ n, k0_pay3 (F := Ideal) (outsAt0 m c (before t).val (before t).isLt).2 (iblk m c 2 t) (outsAt0 m c (before t).val (before t).isLt).1 (iblk m c 3 t) (ix2 a n)
      = ffnRow (xrow m c t a) (gain m c) (w1 m c) (w2 m c) n := fun n => by
    rw [step_at m c t a _ _ (fun k => hb.1 a k), hb.2 a n, xrow_before m c t h0, h, add_assoc, ← Finset.sum_range_succ, ffn_tiles]
    rfl
  simp only [hrow, iblk4]

/-- The array the call returns is the reference's. -/
theorem final (c : Dev nD) : (dats m 0 c).arrAt 5 (cfgs 0).N
    = Cert.FfnFinalRefIdeal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 := (flush0_5 t).mp hf
  blk_simp
  idx_vars y
  rw [after0_5, emb5]
  exact out_at m c t h3 _ _

end Cert.Proof.FfnFinal

end
-- ==== Proof.Ffn.lean ====
/- The squared-ReLU feed-forward network: `x + relu(norm(x)·W₁)²·W₂`, hidden width 8192. The grid takes 512 rows at a time
   and, within them, four hidden tiles of 2048: the result's block starts at the rows themselves and every tile adds its part;
   the normed rows are computed at the first tile and kept in a scratch.

   `outA` / `outB` say what a first and a later point leave, `acc` that after `j` tiles the block holds the row plus the parts
   of the first `j` tiles (`ffnTile`, module `Common`), `out_at` that after the last it holds the reference's row (the sum over
   8192 hidden units being the sum of the four tiles', `ffn_tiles`), and `final` that the arrays are equal. -/
module

public import proofs.«01_k».proof.Proof.Gen.FfnIdeal.Frame
public import proofs.«01_k».proof.Proof.Gen.FfnRefIdeal.Read
public import proofs.«01_k».proof.Proof.Common
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.Ffn

open Idealize.ShloMosaic Idealize.ShloMosaic.TcCoe Idealize.SL.Sem
open Idealize.ShloMosaic.Pipeline (Dat)
open Cert.FfnIdeal Cert.FfnIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V; after_results <;> rfl
theorem V1 (c : Dev nD) : (V m c main_v1 : FVec Ideal S1x2048 .f32)
    = shapeCast S1x2048 (m ((c : Thread nD τ).loc main_arg1)) shapeCasts_S2048_S1x2048 := by
  unfold V; after_results <;> rfl
theorem V2 (c : Dev nD) : (V m c main_v2 : FVec Ideal S2048x8192 .bf16)
    = (truncf .bf16 (m ((c : Thread nD τ).loc main_arg2) : FVec Ideal S2048x8192 .f32) bitsLt_bf16_f32 : FVec Ideal S2048x8192 .bf16) := by
  unfold V; after_results <;> rfl
theorem V3 (c : Dev nD) : (V m c main_v3 : FVec Ideal S8192x2048 .bf16)
    = (truncf .bf16 (m ((c : Thread nD τ).loc main_arg3) : FVec Ideal S8192x2048 .f32) bitsLt_bf16_f32 : FVec Ideal S8192x2048 .bf16) := by
  unfold V; after_results <;> rfl
theorem V4 (c : Dev nD) : (V m c main_v4 : FVec Ideal S1x2048 .f32)
    = shapeCast S1x2048 (m ((c : Thread nD τ).loc main_arg4)) shapeCasts_S2048_S1x2048 := by
  unfold V; after_results <;> rfl

theorem row_lt (t : Fin cfg0.N) (a : Fin 512) : 512 * (t.val / 4) + a.val < 32768 := by
  have := t.isLt; have : cfg0.N = 256 := N_0; omega
theorem tile_lt (t : Fin cfg0.N) (b : Fin 2048) : t.val % 4 * 2048 + b.val < 8192 := by omega

/-- The flattened row that row `a` of point `t`'s block is. -/
abbrev row (t : Fin cfg0.N) (a : Fin 512) : Fin 32768 := ⟨512 * (t.val / 4) + a.val, row_lt t a⟩

/-- Which block of each array point `t` takes: row block `t / 4`, hidden tile `t % 4`. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

theorem blk0 (c : Dev nD) (t : Fin cfg0.N) (a : Fin 512) (b : Fin 2048) :
    iblk m c 0 t (ix2 a b) = V m c main_v0 (ix2 (row t a) b) := by
  blk_ext! [iblk, idx t]
theorem blk1 (c : Dev nD) (t : Fin cfg0.N) (b : Fin 2048) : iblk m c 1 t (ix2 0 b) = V m c main_v1 (ix2 0 b) := by
  blk_ext! [iblk, idx t]
theorem blk4 (c : Dev nD) (t : Fin cfg0.N) (b : Fin 2048) : iblk m c 4 t (ix2 0 b) = V m c main_v4 (ix2 0 b) := by
  blk_ext! [iblk, idx t]
/-- The activations' block: the point's 512 rows. -/
theorem iblk0 (c : Dev nD) (t : Fin cfg0.N) (a : Fin 512) (b : Fin 2048) : iblk m c 0 t (ix2 a b) =
   (m ((c : Thread nD τ).loc main_arg0)) (ix3 (memb (row t a)) (posn (row t a)) b) := by
  rw [blk0, V0]
  exact rows_at _ _ _ _
/-- The gains' block. -/
theorem iblk1 (c : Dev nD) (t : Fin cfg0.N) (b : Fin 2048) : iblk m c 1 t (ix2 0 b) =
   (m ((c : Thread nD τ).loc main_arg1)) (ix1 b) := by
  rw [blk1, V1]
  exact gain_at _ _ _
/-- The first weight's block: the columns of the point's hidden tile. -/
theorem iblk2 (c : Dev nD) (t : Fin cfg0.N) (a : Fin 2048) (b : Fin 2048) : iblk m c 2 t (ix2 a b) =
   V m c main_v2 (ix2 a ⟨t.val % 4 * 2048 + b.val, tile_lt t b⟩) := by
  blk_ext! [iblk, idx t]
/-- The second weight's block: the rows of the point's hidden tile. -/
theorem iblk3 (c : Dev nD) (t : Fin cfg0.N) (a : Fin 2048) (b : Fin 2048) : iblk m c 3 t (ix2 a b) =
   V m c main_v3 (ix2 ⟨t.val % 4 * 2048 + a.val, tile_lt t a⟩ b) := by
  blk_ext! [iblk, idx t]
/-- The final norm's gains. -/
theorem iblk4 (c : Dev nD) (t : Fin cfg0.N) (b : Fin 2048) : iblk m c 4 t (ix2 0 b) =
   (m ((c : Thread nD τ).loc main_arg4)) (ix1 b) := by
  rw [blk4, V4]
  exact gain_at _ _ _
/-- Where the result's block lies in the result. -/
theorem emb5 (t : Fin cfg0.N) (a : Fin 512) (b : Fin 2048) :
    ((View.whole main_v5).slice (win0_5.rect t)).emb (ix2 a b) = ix2 (row t a) b := by
  blk_ext! [idx t]

theorem pay1_at (x : FVec Ideal S512x2048 .f32) (a : Fin 512) (k : Fin 2048) : k0_pay1 (F := Ideal) x (ix2 a k) = x (ix2 a k) := by
  pointwise [k0_pay1]
/-- The normed block. -/
theorem pay2_at (x : FVec Ideal S512x2048 .f32) (g : FVec Ideal S1x2048 .f32) (a : Fin 512) (k : Fin 2048) :
    k0_pay2 (F := Ideal) x g (ix2 a k) = rms (fun j => x (ix2 a j)) (fun j => g (ix2 0 j)) k := by
  pointwise [k0_pay2, k0_pay1]
  rfl
/-- One tile's step: what the accumulator held plus the tile's squared activations times its output weights. -/
theorem pay3_at (h : FVec Ideal S512x2048 .bf16) (w : FVec Ideal S2048x2048 .bf16) (acc : FVec Ideal S512x2048 .f32)
    (v : FVec Ideal S2048x2048 .bf16) (a : Fin 512) (n : Fin 2048) :
    k0_pay3 (F := Ideal) h w acc v (ix2 a n) = acc (ix2 a n)
      + ∑ l : Fin 2048, max (∑ k, h (ix2 a k) * w (ix2 k l)) 0 * max (∑ k, h (ix2 a k) * w (ix2 k l)) 0 * v (ix2 l n) := by
  pointwise [k0_pay3]

/-- The arguments of the call by coordinates: the row of activations under row `a` of point `t`, the gains, the two weights. -/
abbrev xrow (c : Dev nD) (t : Fin cfg0.N) (a : Fin 512) (k : Fin 2048) : EReal :=
  (m ((c : Thread nD τ).loc main_arg0) : FVec Ideal S16x2048x2048 .f32) (ix3 (memb (row t a)) (posn (row t a)) k)
abbrev gain (c : Dev nD) (k : Fin 2048) : EReal := (m ((c : Thread nD τ).loc main_arg1) : FVec Ideal S2048 .f32) (ix1 k)
abbrev w1 (c : Dev nD) (k : Fin 2048) (l : Fin 8192) : EReal := (m ((c : Thread nD τ).loc main_arg2) : FVec Ideal S2048x8192 .f32) (ix2 k l)
abbrev w2 (c : Dev nD) (l : Fin 8192) (n : Fin 2048) : EReal := (m ((c : Thread nD τ).loc main_arg3) : FVec Ideal S8192x2048 .f32) (ix2 l n)

/-- At the first tile of a row block: the accumulator starts at the block itself, and the normed block is kept. -/
theorem outA (c : Dev nD) (t : Fin cfg0.N) (h : t.val % 4 = 0) :
   (outsAt0 m c t.val t.isLt) = (k0_pay3 (k0_pay2 (iblk m c 0 t) (iblk m c 1 t)) (iblk m c 2 t) (k0_pay1 (iblk m c 0 t)) (iblk m c 3 t), k0_pay2 (iblk m c 0 t) (iblk m c 1 t)) := by
  rw [outsAt0_A m c t h]
  frame_out
/-- The point before `t`. -/
abbrev before (t : Fin cfg0.N) : Fin cfg0.N := ⟨t.val - 1, Nat.lt_of_le_of_lt (Nat.sub_le _ _) t.isLt⟩
/-- At a later tile: one step over what the point before left. -/
theorem outB (c : Dev nD) (t : Fin cfg0.N) (h : ¬ t.val % 4 = 0) :
   (outsAt0 m c t.val t.isLt).1 = k0_pay3 (outsAt0 m c (before t).val (before t).isLt).2 (iblk m c 2 t) (outsAt0 m c (before t).val (before t).isLt).1 (iblk m c 3 t) := by
  rw [outsAt0_B m c t h]
  frame_out
  exact congrArg (k0_pay3 · _ _ _) ((Memref.isWhole_whole _).read_unread _)
theorem keptB (c : Dev nD) (t : Fin cfg0.N) (h : ¬ t.val % 4 = 0) :
   (outsAt0 m c t.val t.isLt).2 = (outsAt0 m c (before t).val (before t).isLt).2 := by
  rw [outsAt0_B m c t h]
  rfl

section
open Cert.FfnRefIdeal.Read
/-- The reference's sum of a row and its feed-forward image. -/
theorem ref_row (X : FVec Ideal S16x2048x2048 .f32) (g : FVec Ideal S2048 .f32) (W1 : FVec Ideal S2048x8192 .f32)
    (W2 : FVec Ideal S8192x2048 .f32) (b : Fin 16) (s n : Fin 2048) : val_main_v17 (F := Ideal) X g W1 W2 (ix3 b s n)
      = ffnRow (fun k => X (ix3 b s k)) (fun k => g (ix1 k)) (fun k l => W1 (ix2 k l)) (fun l n => W2 (ix2 l n)) n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst, ffnRow]
  rfl
/-- The reference at a flattened row and a column. -/
theorem ref_at (X : FVec Ideal S16x2048x2048 .f32) (g : FVec Ideal S2048 .f32) (W1 : FVec Ideal S2048x8192 .f32)
    (W2 : FVec Ideal S8192x2048 .f32) (r : Fin 32768) (n : Fin 2048) :
    val_main_v18 (F := Ideal) X g W1 W2 (ix2 r n)
      = ffnRow (fun k => X (ix3 (memb r) (posn r) k)) (fun k => g (ix1 k)) (fun k l => W1 (ix2 k l)) (fun l n => W2 (ix2 l n)) n := by
  pointwise [val_main_v18]
  exact ref_row _ _ _ _ _ _ _
end

/-- One step at point `t` over an accumulator, the kept block being the normed rows: the tile's part is added. -/
theorem step_at (c : Dev nD) (t : Fin cfg0.N) (a : Fin 512) (h : FVec Ideal S512x2048 .bf16) (acc : FVec Ideal S512x2048 .f32)
    (hh : ∀ k, h (ix2 a k) = rms (xrow m c t a) (gain m c) k) (n : Fin 2048) :
    k0_pay3 (F := Ideal) h (iblk m c 2 t) acc (iblk m c 3 t) (ix2 a n)
      = acc (ix2 a n) + ffnTile (rms (xrow m c t a) (gain m c)) (w1 m c) (w2 m c) (t.val % 4) n := by
  rw [pay3_at]
  unfold ffnTile
  rw [dif_pos (Nat.mod_lt _ (by decide))]
  simp only [hh, iblk2, iblk3, V2, V3]
  rfl

theorem kept0 (c : Dev nD) (t : Fin cfg0.N) (a : Fin 512) (k : Fin 2048) :
    k0_pay2 (F := Ideal) (iblk m c 0 t) (iblk m c 1 t) (ix2 a k) = rms (xrow m c t a) (gain m c) k := by
  rw [pay2_at]
  simp only [iblk0, iblk1]

theorem row_before (t : Fin cfg0.N) (h : ¬ t.val % 4 = 0) (a : Fin 512) : row (before t) a = row t a :=
  Fin.ext (by show 512 * ((t.val - 1) / 4) + a.val = 512 * (t.val / 4) + a.val; omega)

theorem xrow_before (c : Dev nD) (t : Fin cfg0.N) (h : ¬ t.val % 4 = 0) (a : Fin 512) :
    xrow m c (before t) a = xrow m c t a := by
  unfold xrow
  rw [row_before t h]

/-- After tile `j` of a row block: the kept block is the normed rows, and the accumulator is the rows plus the parts of the
    tiles so far. -/
theorem acc (c : Dev nD) (j : ℕ) : ∀ t : Fin cfg0.N, t.val % 4 = j →
    (∀ a k, (outsAt0 m c t.val t.isLt).2 (ix2 a k) = rms (xrow m c t a) (gain m c) k)
      ∧ ∀ a n, (outsAt0 m c t.val t.isLt).1 (ix2 a n) = xrow m c t a n
          + ∑ q ∈ Finset.range (j + 1), ffnTile (rms (xrow m c t a) (gain m c)) (w1 m c) (w2 m c) q n := by
  induction j with
  | zero =>
    intro t h
    rw [outA m c t h]
    refine ⟨kept0 m c t, fun a n => ?_⟩
    show k0_pay3 (F := Ideal) _ _ _ _ (ix2 a n) = _
    rw [step_at m c t a _ _ (kept0 m c t a), pay1_at, iblk0, Finset.sum_range_one, h]
  | succ j ih =>
    intro t h
    have h0 : ¬ t.val % 4 = 0 := by omega
    have hb := ih (before t) (show (t.val - 1) % 4 = j by omega)
    simp only [xrow_before m c t h0] at hb
    have hk : ∀ a k, (outsAt0 m c t.val t.isLt).2 (ix2 a k) = rms (xrow m c t a) (gain m c) k := fun a k => by
      rw [keptB m c t h0]
      exact hb.1 a k
    refine ⟨hk, fun a n => ?_⟩
    rw [outB m c t h0, step_at m c t a _ _ (fun k => hb.1 a k), hb.2 a n, xrow_before m c t h0, Finset.sum_range_succ _ (j + 1), h, add_assoc]

/-- After the last tile the block holds the reference's rows. -/
theorem out_at (c : Dev nD) (t : Fin cfg0.N) (h : t.val % 4 = 3) (a : Fin 512) (n : Fin 2048) :
    (outsAt0 m c t.val t.isLt).1 (ix2 a n) = Cert.FfnRefIdeal.Read.val_main_v18 (F := Ideal) (m ((c : Thread nD τ).loc main_arg0))
      (m ((c : Thread nD τ).loc main_arg1)) (m ((c : Thread nD τ).loc main_arg2)) (m ((c : Thread nD τ).loc main_arg3))
      (ix2 (row t a) n) := by
  rw [ref_at]
  rw [(acc m c 3 t h).2 a n, ffn_tiles]
  rfl

/-- The array the call returns is the reference's. -/
theorem final (c : Dev nD) : (dats m 0 c).arrAt 5 (cfgs 0).N
    = Cert.FfnRefIdeal.Read.val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have h3 := (flush0_5 t).mp hf
  blk_simp
  idx_vars y
  rw [after0_5, emb5]
  exact out_at m c t h3 _ _

end Cert.Proof.Ffn

end
-- ==== Proof.Gelu.lean ====
/-
  The error function over the extended reals is odd, so the two ways of writing the exact GELU agree.
-/
module

public import Idealize.ShloMosaic.PureOps.Ideal

@[expose] public section

noncomputable section

namespace Cert.Proof

open Idealize.ShloMosaic

/-- The exact GELU as the kernel writes it, its constants the f32 values 0.5, √½ and 1 as printed. -/
def gelu (y : EReal) : EReal := Ideal.ofBits .f32 0x3F000000#32 * y * (1 + Ideal.erf (y * Ideal.ofBits .f32 0x3F3504F3#32))

/-- The error function is odd, its limits at the infinities included. -/
theorem erf_neg (x : EReal) : Ideal.erf (-x) = -Ideal.erf x := by
  induction x using EReal.rec with
  | bot => rw [EReal.neg_bot, Ideal.erf_top, Ideal.erf_bot, neg_neg]
  | top => rw [EReal.neg_top, Ideal.erf_top, Ideal.erf_bot]
  | coe r =>
    rw [← EReal.coe_neg, Ideal.erf_coe, Ideal.erf_coe, ← EReal.coe_neg]
    congr 1
    have h := intervalIntegral.integral_comp_neg (a := 0) (b := r) (fun t : ℝ => Real.exp (-(t ^ 2)))
    simp only [neg_sq, neg_zero] at h
    rw [h, intervalIntegral.integral_symm]
    ring

/-- `erfc (-x * s)` is `1 + erf (x * s)`. -/
theorem erfc_neg_mul (x s : EReal) : Ideal.erfc (-x * s) = 1 + Ideal.erf (x * s) := by
  unfold Ideal.erfc
  rw [EReal.neg_mul, erf_neg, sub_eq_add_neg, neg_neg]

end Cert.Proof

end
-- ==== Proof.OddIn.lean ====
/- The odd layers' input projection: RMSNorm, a product with a weight of 4096 columns, then the exact GELU. The grid takes
   512 rows at a time and, within them, two column blocks of 2048: at the first the normed rows are computed and kept in a
   scratch, at the second they are read back. The kernel writes the GELU with `erf`, the reference with `erfc`; both are brought
   to `gelu` (module `Gelu`).

   `V0`–`V2` say what the host hands the call, `idx` which block each point takes, `blk…` / `iblk…` / `emb3` what the blocks
   hold and where the result's block lies, `outA` / `outB` what a first and a second point leave, `pay…_at` the kernel's two
   computations at an index. `proj` is the value in closed form; `ref_at` shows the reference equal to it, `out_at` the
   kernel, and `final` puts the two together. -/
module

public import proofs.«01_k».proof.Proof.Gen.OddInIdeal.Frame
public import proofs.«01_k».proof.Proof.Gen.OddInRefIdeal.Read
public import proofs.«01_k».proof.Proof.Common
public import proofs.«01_k».proof.Proof.Gelu
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.OddIn

open Idealize.ShloMosaic Idealize.ShloMosaic.TcCoe Idealize.SL.Sem
open Idealize.ShloMosaic.Pipeline (Dat)
open Cert.OddInIdeal Cert.OddInIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V; after_results <;> rfl
theorem V1 (c : Dev nD) : (V m c main_v1 : FVec Ideal S1x2048 .f32)
    = shapeCast S1x2048 (m ((c : Thread nD τ).loc main_arg1)) shapeCasts_S2048_S1x2048 := by
  unfold V; after_results <;> rfl
theorem V2 (c : Dev nD) : (V m c main_v2 : FVec Ideal S2048x4096 .bf16)
    = (truncf .bf16 (m ((c : Thread nD τ).loc main_arg2) : FVec Ideal S2048x4096 .f32) bitsLt_bf16_f32 : FVec Ideal S2048x4096 .bf16) := by
  unfold V; after_results <;> rfl

theorem row_lt (t : Fin cfg0.N) (a : Fin 512) : 512 * (t.val / 2) + a.val < 32768 := by
  have := t.isLt; have : cfg0.N = 128 := N_0; omega
theorem col_lt (t : Fin cfg0.N) (b : Fin 2048) : 2048 * (t.val % 2) + b.val < 4096 := by omega

/-- Which block of each array a grid point takes. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

theorem blk0 (c : Dev nD) (t : Fin cfg0.N) (a : Fin 512) (b : Fin 2048) :
    iblk m c 0 t (ix2 a b) = V m c main_v0 (ix2 ⟨512 * (t.val / 2) + a.val, row_lt t a⟩ b) := by
  blk_ext! [iblk, idx t]
theorem blk1 (c : Dev nD) (t : Fin cfg0.N) (b : Fin 2048) : iblk m c 1 t (ix2 0 b) = V m c main_v1 (ix2 0 b) := by
  blk_ext! [iblk, idx t]
theorem iblk0 (c : Dev nD) (t : Fin cfg0.N) (a : Fin 512) (b : Fin 2048) : iblk m c 0 t (ix2 a b) =
   (m ((c : Thread nD τ).loc main_arg0)) (ix3 ⟨(512 * (t.val / 2) + a.val) / 2048, by have := row_lt t a; omega⟩ ⟨(512 * (t.val / 2) + a.val) % 2048, by omega⟩ b) := by
  rw [blk0, V0]
  exact rows_at _ _ _ _
theorem iblk1 (c : Dev nD) (t : Fin cfg0.N) (b : Fin 2048) : iblk m c 1 t (ix2 0 b) =
   (m ((c : Thread nD τ).loc main_arg1)) (ix1 b) := by
  rw [blk1, V1]
  exact gain_at _ _ _
theorem iblk2 (c : Dev nD) (t : Fin cfg0.N) (a : Fin 2048) (b : Fin 2048) : iblk m c 2 t (ix2 a b) =
   V m c main_v2 (ix2 a ⟨2048 * (t.val % 2) + b.val, col_lt t b⟩) := by
  blk_ext! [iblk, idx t]
theorem emb3 (t : Fin cfg0.N) (a : Fin 512) (b : Fin 2048) :
    ((View.whole main_v3).slice (win0_3.rect t)).emb (ix2 a b) = ix2 ⟨512 * (t.val / 2) + a.val, row_lt t a⟩ ⟨2048 * (t.val % 2) + b.val, col_lt t b⟩ := by
  blk_ext! [idx t]

theorem outA (c : Dev nD) (t : Fin cfg0.N) (h : t.val % 2 = 0) :
   (outsAt0 m c t.val t.isLt) = (k0_pay2 (k0_pay1 (iblk m c 0 t) (iblk m c 1 t)) (iblk m c 2 t), k0_pay1 (iblk m c 0 t) (iblk m c 1 t)) := by
  rw [outsAt0_A m c t h]
  frame_out
theorem outB (c : Dev nD) (t : Fin cfg0.N) (h : ¬ t.val % 2 = 0) :
   (outsAt0 m c t.val t.isLt).1 = k0_pay2 (outsAt0 m c (t.val - 1) (Nat.lt_of_le_of_lt (Nat.sub_le _ _) t.isLt)).2 (iblk m c 2 t) := by
  rw [outsAt0_B m c t h]
  frame_out
  exact congrArg (k0_pay2 · _) ((Memref.isWhole_whole _).read_unread _)

theorem pay1_at (x : FVec Ideal S512x2048 .f32) (g : FVec Ideal S1x2048 .f32) (a : Fin 512) (k : Fin 2048) :
    k0_pay1 (F := Ideal) x g (ix2 a k) = rms (fun j => x (ix2 a j)) (fun j => g (ix2 0 j)) k := by
  pointwise [k0_pay1]
  rfl
theorem pay2_at (h : FVec Ideal S512x2048 .bf16) (w : FVec Ideal S2048x2048 .bf16) (a : Fin 512) (n : Fin 2048) :
    k0_pay2 (F := Ideal) h w (ix2 a n) = gelu (∑ k, h (ix2 a k) * w (ix2 k n)) := by
  pointwise [k0_pay2, gelu]
  rfl

section
open Cert.OddInRefIdeal.Read
/-- What the call computes at row `r` and column `n`: the GELU of the product of the normed row and the weight column. -/
def proj (X : FVec Ideal S16x2048x2048 .f32) (g : FVec Ideal S2048 .f32) (W : FVec Ideal S2048x4096 .f32)
    (r : Fin 32768) (n : Fin 4096) : EReal :=
  gelu (∑ k, rms (fun k => X (ix3 (memb r) (posn r) k)) (fun k => g (ix1 k)) k * W (ix2 k n))
/-- The reference at a flattened row and a column. -/
theorem ref_at (X : FVec Ideal S16x2048x2048 .f32) (g : FVec Ideal S2048 .f32) (W : FVec Ideal S2048x4096 .f32)
    (r : Fin 32768) (n : Fin 4096) : val_main_v21 (F := Ideal) X g W (ix2 r n)
      = proj X g W r n := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, proj, gelu]
  rw [erfc_neg_mul]
  rfl
end

/-- After the two points of a row block the result's staging buffer holds the product of the block's normed rows and the point's weight columns. -/
theorem out_at (c : Dev nD) (t : Fin cfg0.N) (a : Fin 512) (b : Fin 2048) :
    (outsAt0 m c t.val t.isLt).1 (ix2 a b) =
      Cert.OddInRefIdeal.Read.val_main_v21 (F := Ideal) (m ((c : Thread nD τ).loc main_arg0)) (m ((c : Thread nD τ).loc main_arg1))
        (m ((c : Thread nD τ).loc main_arg2)) (ix2 ⟨512 * (t.val / 2) + a.val, row_lt t a⟩ ⟨2048 * (t.val % 2) + b.val, col_lt t b⟩) := by
  refine Eq.trans ?_ (ref_at _ _ _ _ _).symm
  have key : ∀ s : Fin cfg0.N, s.val / 2 = t.val / 2 →
    k0_pay2 (F := Ideal) (k0_pay1 (iblk m c 0 s) (iblk m c 1 s)) (iblk m c 2 t) (ix2 a b)
      = proj (m ((c : Thread nD τ).loc main_arg0)) (m ((c : Thread nD τ).loc main_arg1)) (m ((c : Thread nD τ).loc main_arg2))
        ⟨512 * (t.val / 2) + a.val, row_lt t a⟩ ⟨2048 * (t.val % 2) + b.val, col_lt t b⟩ := fun s hs => by
    rw [pay2_at]
    unfold proj
    refine congrArg gelu (Finset.sum_congr rfl fun k _ => ?_)
    rw [iblk2, V2, pay1_at]
    simp only [iblk0, iblk1, hs]
    rfl
  by_cases h : t.val % 2 = 0
  · rw [outA m c t h]
    exact key t rfl
  · have h1 : (t.val - 1) % 2 = 0 := by omega
    rw [outB m c t h, outA m c ⟨t.val - 1, Nat.lt_of_le_of_lt (Nat.sub_le _ _) t.isLt⟩ h1]
    exact key ⟨t.val - 1, _⟩ (show (t.val - 1) / 2 = t.val / 2 by omega)

/-- The array the call returns is the reference's. -/
theorem final (c : Dev nD) : (dats m 0 c).arrAt 3 (cfgs 0).N
    = Cert.OddInRefIdeal.Read.val_main_v21 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  idx_vars y
  rw [after0_3, emb3]
  exact out_at m c t _ _

end Cert.Proof.OddIn

end
-- ==== Proof.EvenIn.lean ====
/- The even layers' input projection: RMSNorm, then a product with a weight of 6432 columns that the host pads with zero
   columns to 6656. The grid takes 512 rows at a time and, within them, two column blocks of 3328: at the first the normed
   rows are computed and kept in a scratch, at the second they are read back.

   `V0`–`V3` say what the host hands the call (`w_at`: the padded weight), `idx` which block each point takes, `blk…` /
   `iblk…` / `emb3` what the blocks hold and where the result's block lies, `outA` / `outB` what a first and a second point
   leave, `pay…_at` the kernel's two computations at an index. `proj` is the value in closed form; `ref_at` shows the
   reference equal to it, `out_at` the kernel, and `final` puts the two together. -/
module

public import proofs.«01_k».proof.Proof.Gen.EvenInIdeal.Frame
public import proofs.«01_k».proof.Proof.Gen.EvenInRefIdeal.Read
public import proofs.«01_k».proof.Proof.Common
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.EvenIn

open Idealize.ShloMosaic Idealize.ShloMosaic.TcCoe Idealize.SL.Sem
open Idealize.ShloMosaic.Pipeline (Dat)
open Cert.EvenInIdeal Cert.EvenInIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V hostOps0 hostOps0_1 hostOps0_2
  simp only [List.flatten_cons, List.flatten_nil, List.append_nil, List.cons_append, List.nil_append]
  after_results <;> rfl
theorem V1 (c : Dev nD) : (V m c main_v1 : FVec Ideal S1x2048 .f32)
    = shapeCast S1x2048 (m ((c : Thread nD τ).loc main_arg1)) shapeCasts_S2048_S1x2048 := by
  unfold V hostOps0 hostOps0_1 hostOps0_2
  simp only [List.flatten_cons, List.flatten_nil, List.append_nil, List.cons_append, List.nil_append]
  after_results <;> rfl
theorem V3 (c : Dev nD) : (V m c main_v3 : FVec Ideal S2048x6656 .bf16)
    = (truncf .bf16 (pad S2048x6656 ![0, 0] ![0, 224] ![0, 0] (m ((c : Thread nD τ).loc main_arg2) : FVec Ideal S2048x6432 .f32)
        (sitofp .f32 (constantI S_ 32 0#32) : FVec Ideal S_ .f32) pads_S2048x6432_S2048x6656_000_02240 h_S_ : FVec Ideal S2048x6656 .f32) bitsLt_bf16_f32 : FVec Ideal S2048x6656 .bf16) := by
  unfold V hostOps0 hostOps0_1 hostOps0_2
  simp only [List.flatten_cons, List.flatten_nil, List.append_nil, List.cons_append, List.nil_append]
  after_results <;> rfl

theorem row_lt (t : Fin cfg0.N) (a : Fin 512) : 512 * (t.val / 2) + a.val < 32768 := by
  have := t.isLt; have : cfg0.N = 128 := N_0; omega
theorem col_lt (t : Fin cfg0.N) (b : Fin 3328) : 3328 * (t.val % 2) + b.val < 6656 := by omega

/-- Which block of each array a grid point takes. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

theorem blk0 (c : Dev nD) (t : Fin cfg0.N) (a : Fin 512) (b : Fin 2048) :
    iblk m c 0 t (ix2 a b) = V m c main_v0 (ix2 ⟨512 * (t.val / 2) + a.val, row_lt t a⟩ b) := by
  blk_ext! [iblk, idx t]
theorem blk1 (c : Dev nD) (t : Fin cfg0.N) (b : Fin 2048) : iblk m c 1 t (ix2 0 b) = V m c main_v1 (ix2 0 b) := by
  blk_ext! [iblk, idx t]
theorem iblk0 (c : Dev nD) (t : Fin cfg0.N) (a : Fin 512) (b : Fin 2048) : iblk m c 0 t (ix2 a b) =
   (m ((c : Thread nD τ).loc main_arg0)) (ix3 ⟨(512 * (t.val / 2) + a.val) / 2048, by have := row_lt t a; omega⟩ ⟨(512 * (t.val / 2) + a.val) % 2048, by omega⟩ b) := by
  rw [blk0, V0]
  exact rows_at _ _ _ _
theorem iblk1 (c : Dev nD) (t : Fin cfg0.N) (b : Fin 2048) : iblk m c 1 t (ix2 0 b) =
   (m ((c : Thread nD τ).loc main_arg1)) (ix1 b) := by
  rw [blk1, V1]
  exact gain_at _ _ _
theorem iblk2 (c : Dev nD) (t : Fin cfg0.N) (a : Fin 2048) (b : Fin 3328) : iblk m c 2 t (ix2 a b) =
   V m c main_v3 (ix2 a ⟨3328 * (t.val % 2) + b.val, col_lt t b⟩) := by
  blk_ext! [iblk, idx t]
theorem emb3 (t : Fin cfg0.N) (a : Fin 512) (b : Fin 3328) :
    ((View.whole main_v4).slice (win0_3.rect t)).emb (ix2 a b) = ix2 ⟨512 * (t.val / 2) + a.val, row_lt t a⟩ ⟨3328 * (t.val % 2) + b.val, col_lt t b⟩ := by
  blk_ext! [idx t]

/-- The padding value: the integer zero as a float. -/
theorem sitofp_zero : (FloatOps.sitofp (F := Ideal) FTy.f32 (0#32)) = (0 : EReal) := by
  show (((0#32 : BitVec 32).toInt : ℝ) : EReal) = 0
  simp
theorem w_at (W : FVec Ideal S2048x6432 .f32) (k : Fin 2048) (n : Fin 6656) :
  (truncf .bf16 (pad S2048x6656 ![0, 0] ![0, 224] ![0, 0] W
        (sitofp .f32 (constantI S_ 32 0#32) : FVec Ideal S_ .f32) pads_S2048x6432_S2048x6656_000_02240 h_S_ : FVec Ideal S2048x6656 .f32) bitsLt_bf16_f32 : FVec Ideal S2048x6656 .bf16) (ix2 k n)
  = if h : n.val < 6432 then W (ix2 k ⟨n.val, h⟩) else 0 := by
  pointwise
  rw [sitofp_zero]

theorem outA (c : Dev nD) (t : Fin cfg0.N) (h : t.val % 2 = 0) :
   (outsAt0 m c t.val t.isLt) = (k0_pay2 (k0_pay1 (iblk m c 0 t) (iblk m c 1 t)) (iblk m c 2 t), k0_pay1 (iblk m c 0 t) (iblk m c 1 t)) := by
  rw [outsAt0_A m c t h]
  frame_out
theorem outB (c : Dev nD) (t : Fin cfg0.N) (h : ¬ t.val % 2 = 0) :
   (outsAt0 m c t.val t.isLt).1 = k0_pay2 (outsAt0 m c (t.val - 1) (Nat.lt_of_le_of_lt (Nat.sub_le _ _) t.isLt)).2 (iblk m c 2 t) := by
  rw [outsAt0_B m c t h]
  frame_out
  exact congrArg (k0_pay2 · _) ((Memref.isWhole_whole _).read_unread _)

theorem pay1_at (x : FVec Ideal S512x2048 .f32) (g : FVec Ideal S1x2048 .f32) (a : Fin 512) (k : Fin 2048) :
    k0_pay1 (F := Ideal) x g (ix2 a k) = rms (fun j => x (ix2 a j)) (fun j => g (ix2 0 j)) k := by
  pointwise [k0_pay1]
  rfl
theorem pay2_at (h : FVec Ideal S512x2048 .bf16) (w : FVec Ideal S2048x3328 .bf16) (a : Fin 512) (n : Fin 3328) :
    k0_pay2 (F := Ideal) h w (ix2 a n) = ∑ k, h (ix2 a k) * w (ix2 k n) := by
  pointwise [k0_pay2]

section
open Cert.EvenInRefIdeal.Read
/-- What the call computes at row `r` and column `n`: the product of the normed row and the weight column, and 0 in the
    padding columns. -/
def proj (X : FVec Ideal S16x2048x2048 .f32) (g : FVec Ideal S2048 .f32) (W : FVec Ideal S2048x6432 .f32)
    (r : Fin 32768) (n : Fin 6656) : EReal :=
  if h : n.val < 6432 then ∑ k, rms (fun k => X (ix3 (memb r) (posn r) k)) (fun k => g (ix1 k)) k * W (ix2 k ⟨n.val, h⟩) else 0
/-- The reference at a flattened row and a column. -/
theorem ref_at (X : FVec Ideal S16x2048x2048 .f32) (g : FVec Ideal S2048 .f32) (W : FVec Ideal S2048x6432 .f32)
    (r : Fin 32768) (n : Fin 6656) : val_main_v15 (F := Ideal) X g W (ix2 r n)
      = proj X g W r n := by
  pointwise [val_main_v15, val_main_v14, val_main_v13, val_main_v12, val_main_v11, val_main_v10, val_main_v9, val_main_v8, val_main_v7, val_main_v6, val_main_v5, val_main_v4, val_main_v3, val_main_v2, val_main_v1, val_main_v0,val_main_cst, val_main_cst_0, val_main_cst_1, val_main_c, val_main_call0_v0, proj]
  rw [sitofp_zero]
  rfl
end

/-- After the two points of a row block the result's staging buffer holds the product of the block's normed rows and the point's weight columns. -/
theorem out_at (c : Dev nD) (t : Fin cfg0.N) (a : Fin 512) (b : Fin 3328) :
    (outsAt0 m c t.val t.isLt).1 (ix2 a b) =
      Cert.EvenInRefIdeal.Read.val_main_v15 (F := Ideal) (m ((c : Thread nD τ).loc main_arg0)) (m ((c : Thread nD τ).loc main_arg1))
        (m ((c : Thread nD τ).loc main_arg2)) (ix2 ⟨512 * (t.val / 2) + a.val, row_lt t a⟩ ⟨3328 * (t.val % 2) + b.val, col_lt t b⟩) := by
  refine Eq.trans ?_ (ref_at _ _ _ _ _).symm
  have key : ∀ s : Fin cfg0.N, s.val / 2 = t.val / 2 →
    k0_pay2 (F := Ideal) (k0_pay1 (iblk m c 0 s) (iblk m c 1 s)) (iblk m c 2 t) (ix2 a b)
      = proj (m ((c : Thread nD τ).loc main_arg0)) (m ((c : Thread nD τ).loc main_arg1)) (m ((c : Thread nD τ).loc main_arg2))
        ⟨512 * (t.val / 2) + a.val, row_lt t a⟩ ⟨3328 * (t.val % 2) + b.val, col_lt t b⟩ := fun s hs => by
    rw [pay2_at]
    unfold proj
    by_cases hn : 3328 * (t.val % 2) + b.val < 6432
    · rw [dif_pos hn]
      refine Finset.sum_congr rfl fun k _ => ?_
      rw [iblk2, V3, w_at, dif_pos hn, pay1_at]
      simp only [iblk0, iblk1, hs]
    · rw [dif_neg hn]
      refine Finset.sum_eq_zero fun k _ => ?_
      rw [iblk2, V3, w_at, dif_neg hn]
      exact mul_zero _
  by_cases h : t.val % 2 = 0
  · rw [outA m c t h]
    exact key t rfl
  · have h1 : (t.val - 1) % 2 = 0 := by omega
    rw [outB m c t h, outA m c ⟨t.val - 1, Nat.lt_of_le_of_lt (Nat.sub_le _ _) t.isLt⟩ h1]
    exact key ⟨t.val - 1, _⟩ (show (t.val - 1) / 2 = t.val / 2 by omega)

/-- The array the call returns is the reference's. -/
theorem final (c : Dev nD) : (dats m 0 c).arrAt 3 (cfgs 0).N
    = Cert.EvenInRefIdeal.Read.val_main_v15 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  idx_vars y
  rw [after0_3, emb3]
  exact out_at m c t _ _

end Cert.Proof.EvenIn

end
-- ==== Proof.OutProj.lean ====
/- The even layers' output projection. The kernel takes 512 rows at a time of the residual stream `x` and of the two mixers'
   outputs `a` and `b`, and returns `x + a·W₁ + b·W₂`, `W₁` and `W₂` the upper and lower 1024 rows of the weight. The
   reference multiplies the concatenation of `a` and `b` by the whole weight.

   `V0`–`V3` say what the host hands the call, `idx` which block each grid point takes, `iblk0`–`iblk3` and `emb4` what the
   blocks hold and where the result's block lies. `cat_at` / `cat_at'` read the two halves of the concatenation, `ref_at`
   splits the reference's sum of 2048 terms into the two halves, and `final` states that the arrays are equal. -/
module

public import proofs.«01_k».proof.Proof.Gen.OutProjIdeal.Frame
public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.OutProj

open Idealize.ShloMosaic Idealize.ShloMosaic.TcCoe Idealize.SL.Sem
open Idealize.ShloMosaic.Pipeline (Dat)
open Cert.OutProjIdeal Cert.OutProjIdeal.Gen
open Idealize.ShloMosaic.StableHlo

variable (m : (ℓ : Loc nD τ sig) → Buf (Elt Ideal) ℓ)

theorem V0 (c : Dev nD) : (V m c main_v0 : FVec Ideal S32768x2048 .f32)
    = shapeCast S32768x2048 (m ((c : Thread nD τ).loc main_arg0)) shapeCasts_S16x2048x2048_S32768x2048 := by
  unfold V; after_results <;> rfl
theorem V1 (c : Dev nD) : (V m c main_v1 : FVec Ideal S32768x1024 .bf16)
    = shapeCast S32768x1024 (m ((c : Thread nD τ).loc main_arg1)) shapeCasts_S16x2048x1024_S32768x1024 := by
  unfold V; after_results <;> rfl
theorem V2 (c : Dev nD) : (V m c main_v2 : FVec Ideal S32768x1024 .bf16)
    = shapeCast S32768x1024 (m ((c : Thread nD τ).loc main_arg2)) shapeCasts_S16x2048x1024_S32768x1024 := by
  unfold V; after_results <;> rfl
theorem V3 (c : Dev nD) : (V m c main_v3 : FVec Ideal S2048x2048 .bf16)
    = (truncf .bf16 (m ((c : Thread nD τ).loc main_arg3) : FVec Ideal S2048x2048 .f32) bitsLt_bf16_f32 : FVec Ideal S2048x2048 .bf16) := by
  unfold V; after_results <;> rfl

/-- Which block of each array a grid point takes. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

section
open Cert.OutProjRefIdeal.Read
/-- The concatenation at a column of its first half. -/
theorem cat_at (A B : FVec Ideal S16x2048x1024 .bf16)
    (b : Fin 16) (s : Fin 2048) (k : Fin 1024) : val_main_v2 (F := Ideal) A B (ix3 b s ⟨k.val, by omega⟩) = A (ix3 b s k) := by
  pointwise [val_main_v2, val_main_v1, val_main_v0]
/-- The concatenation at a column of its second half. -/
theorem cat_at' (A B : FVec Ideal S16x2048x1024 .bf16)
    (b : Fin 16) (s : Fin 2048) (k : Fin 1024) : val_main_v2 (F := Ideal) A B (ix3 b s ⟨1024 + k.val, by omega⟩) = B (ix3 b s k) := by
  pointwise [val_main_v2, val_main_v1, val_main_v0]
/-- The reference at a flattened row and a column. -/
theorem ref_at (X : FVec Ideal S16x2048x2048 .f32) (A B : FVec Ideal S16x2048x1024 .bf16) (W : FVec Ideal S2048x2048 .f32)
    (r : Fin 32768) (n : Fin 2048) : val_main_v5 (F := Ideal) X A B W (ix2 r n)
      = X (ix3 ⟨r.val / 2048, by omega⟩ ⟨r.val % 2048, by omega⟩ n)
        + ((∑ k : Fin 1024, A (ix3 ⟨r.val / 2048, by omega⟩ ⟨r.val % 2048, by omega⟩ k) * W (ix2 ⟨k.val, by omega⟩ n))
          + ∑ k : Fin 1024, B (ix3 ⟨r.val / 2048, by omega⟩ ⟨r.val % 2048, by omega⟩ k) * W (ix2 ⟨1024 + k.val, by omega⟩ n)) := by
  pointwise [val_main_v5, val_main_v4, val_main_v3]
  rw [Fin.sum_univ_two_halves 1024 1024 rfl]
  simp only [cat_at, cat_at']
end

theorem row_lt (t : Fin cfg0.N) (a : Fin 512) : 512 * t.val + a.val < 32768 := by
  have := t.isLt; have : cfg0.N = 64 := N_0; omega

theorem iblk0 (c : Dev nD) (t : Fin cfg0.N) (a : Fin 512) (b : Fin 2048) : iblk m c 0 t (ix2 a b) =
   (m ((c : Thread nD τ).loc main_arg0)) (ix3 ⟨(512 * t.val + a.val) / 2048, by have := row_lt t a; omega⟩ ⟨(512 * t.val + a.val) % 2048, by omega⟩ b) := by
  blk_ext! [iblk, V0, idx t]
theorem iblk1 (c : Dev nD) (t : Fin cfg0.N) (a : Fin 512) (b : Fin 1024) : iblk m c 1 t (ix2 a b) =
   (m ((c : Thread nD τ).loc main_arg1)) (ix3 ⟨(512 * t.val + a.val) / 2048, by have := row_lt t a; omega⟩ ⟨(512 * t.val + a.val) % 2048, by omega⟩ b) := by
  blk_ext! [iblk, V1, idx t]
theorem iblk2 (c : Dev nD) (t : Fin cfg0.N) (a : Fin 512) (b : Fin 1024) : iblk m c 2 t (ix2 a b) =
   (m ((c : Thread nD τ).loc main_arg2)) (ix3 ⟨(512 * t.val + a.val) / 2048, by have := row_lt t a; omega⟩ ⟨(512 * t.val + a.val) % 2048, by omega⟩ b) := by
  blk_ext! [iblk, V2, idx t]
theorem iblk3 (c : Dev nD) (t : Fin cfg0.N) (k n : Fin 2048) : iblk m c 3 t (ix2 k n) =
   (m ((c : Thread nD τ).loc main_arg3)) (ix2 k n) := by
  blk_ext! [iblk, V3, idx t]

theorem emb4 (t : Fin cfg0.N) (a : Fin 512) (b : Fin 2048) :
    ((View.whole main_v4).slice (win0_4.rect t)).emb (ix2 a b) = ix2 ⟨512 * t.val + a.val, row_lt t a⟩ b := by
  blk_ext! [idx t]

/-- The array the call returns is the reference's. -/
theorem final (c : Dev nD) : (dats m 0 c).arrAt 4 (cfgs 0).N
    = Cert.OutProjRefIdeal.Read.val_main_v5 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  pointwise [k0_pay1]
  rw [emb4]
  refine Eq.trans ?_ (ref_at _ _ _ _ _ _).symm
  rw [← add_assoc]
  simp only [iblk0, iblk1, iblk2, iblk3]

end Cert.Proof.OutProj

end
-- ==== Proof.SbLoop.lean ====
/- The stick-breaking kernel's loop over pairs of key tiles, for its frame: at any float instance the loop ends, it leaves the
   keys and the values as they were and touches nothing besides its scratch.

   `goes` says what the loop tests: that the pair is before the query tile's last one, and the flag. `chk` is the check of the
   key and value tiles' offsets at a pair that passes the test. `held` is what the loop holds, the scratch at any contents;
   `spec_le` is by induction on the number of pairs that are left. -/
module

public import proofs.«01_k».proof.Proof.Gen.Sb.Launch
public import proofs.«01_k».proof.Proof.Gen.Sb.Skeleton
public import proofs.«01_k».proof.Proof.Gen.Sb.Points
public import Idealize.ShloMosaic.Lib.Pipeline.FrameBody
public import Idealize.ShloMosaic.Lib.Tactic
public import Idealize.ShloMosaic.Lib.WordCmp

@[expose] public section

set_option maxRecDepth 16384

noncomputable section

namespace Cert.Proof.SbFrame

open Cert.Sb Cert.Sb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The measure of a loop: a number that falls with every pair. -/
abbrev 𝒱₀ : Variants := Variants.nat

/-- The number of pairs of key tiles that the query tile `x` sees, as the kernel computes it. -/
abbrev pairs (x : Fin 8) : BitVec 32 :=
  let v0 : BitVec 32 := Scalar.addi (BitVec.ofNat 32 x.val) 1#32
  let v1 : BitVec 32 := Scalar.muli v0 2#32
  let v558 : BitVec 32 := Scalar.divsi v1 2#32
  let v563 : BitVec 32 := Scalar.subi (Scalar.extui (Scalar.cmpi .sgt v1 0#32)) (Scalar.extui (Scalar.cmpi .slt v1 0#32))
  let v568 : BitVec 32 := Scalar.subi (Scalar.extui (Scalar.cmpi .sgt 2#32 0#32)) (Scalar.extui (Scalar.cmpi .slt 2#32 0#32))
  Scalar.select (Scalar.andi (Scalar.cmpi .ne v563 v568) (Scalar.cmpi .ne (Scalar.remsi v1 2#32) 0#32))
    (Scalar.subi v558 1#32) v558

theorem pairs_eq : ∀ x : Fin 8, pairs x = BitVec.ofNat 32 (x.val + 1) := by decide

/-- The loop goes on at pair `p` with flag `1` where `p` is at most the query tile, and nowhere else. -/
theorem goes_iff : ∀ (x : Fin 8) (p : Fin 10) (b : BitVec 1),
    Scalar.andi (Scalar.cmpi .slt (BitVec.ofNat 32 p.val) (pairs x)) b = 1#1 ↔ p.val ≤ x.val ∧ b = 1#1 := by
  decide

/-- The first row of the tile that is `n` tiles before the query tile's last one, as the kernel computes it. -/
abbrev row (x : Fin 8) (n : BitVec 32) : BitVec 32 :=
  Scalar.muli (Scalar.maxsi (Scalar.subi (Scalar.subi (Scalar.muli (Scalar.addi (BitVec.ofNat 32 x.val) 1#32) 2#32) 1#32) n) 0#32) 128#32

theorem row_eq : ∀ (x : Fin 8) (n : Fin 20), (row x (BitVec.ofNat 32 n.val)).toNat = 128 * (2 * x.val + 1 - n.val) := by decide

theorem w2 : ∀ p : Fin 8, Scalar.addi (Scalar.muli 2#32 (BitVec.ofNat 32 p.val)) 3#32 = BitVec.ofNat 32 (2 * p.val + 3) := by decide
theorem w3 : ∀ p : Fin 8, Scalar.subi (Scalar.addi (Scalar.muli 2#32 (BitVec.ofNat 32 p.val)) 3#32) 3#32 = BitVec.ofNat 32 (2 * p.val) := by decide
theorem w4 : ∀ p : Fin 8, Scalar.addi (Scalar.addi (Scalar.muli 2#32 (BitVec.ofNat 32 p.val)) 3#32) 1#32 = BitVec.ofNat 32 (2 * p.val + 4) := by decide
theorem w5 : ∀ p : Fin 8, Scalar.subi (Scalar.addi (Scalar.addi (Scalar.muli 2#32 (BitVec.ofNat 32 p.val)) 3#32) 1#32) 3#32 = BitVec.ofNat 32 (2 * p.val + 1) := by decide

/-- The row, where the number of tiles is written as another word. -/
theorem row_of (x : Fin 8) (n : Fin 20) (w : BitVec 32) (h : w = BitVec.ofNat 32 n.val) :
    (row x w).toNat = 128 * (2 * x.val + 1 - n.val) := h ▸ row_eq x n

/-- A tile's rows lie in the array. -/
theorem row_inb (x : Fin 8) (n : ℕ) (w : BitVec 32) (h : (row x w).toNat = 128 * (2 * x.val + 1 - n)) :
    128 ∣ (row x w).toNat ∧ ∀ a, (![(row x w).toNat, 0] : Fin 2 → Nat) a + S128x128.size a ≤ S2048x128.size a := by
  refine ⟨⟨_, h⟩, fun a => ?_⟩
  rw [h]
  have := x.isLt
  fin_cases a
  · show 128 * (2 * x.val + 1 - n) + 128 ≤ 2048; omega
  · show 0 + 128 ≤ 128; omega

/-- The offsets' check of the loop's four tiles, at every pair. -/
theorem chk (i : grid0.Coords) (p : Fin 8) : k0_chk1 i (BitVec.ofNat 32 p.val) := by
  have hp := p.isLt
  have h2 := row_inb (i 2) _ _ (row_of (i 2) ⟨2 * p.val + 3, by omega⟩ _ (w2 p))
  have h3 := row_inb (i 2) _ _ (row_of (i 2) ⟨2 * p.val, by omega⟩ _ (w3 p))
  have h4 := row_inb (i 2) _ _ (row_of (i 2) ⟨2 * p.val + 4, by omega⟩ _ (w4 p))
  have h5 := row_inb (i 2) _ _ (row_of (i 2) ⟨2 * p.val + 1, by omega⟩ _ (w5 p))
  exact ⟨h2.1, h2.2, h3.1, h3.2, h4.1, h4.2, h5.1, h5.2⟩

theorem addi_one : ∀ p : Fin 8, Scalar.addi (BitVec.ofNat 32 p.val) 1#32 = BitVec.ofNat 32 (p.val + 1) := by decide

section Label

variable (c : Dev nD) (i : grid0.Coords)
  (arg4 : Memref sig .tc .vmem S2048x128 .f32) (harg4 : arg4.IsWhole) (arg5 : Memref sig .tc .vmem S2048x128 .f32) (harg5 : arg5.IsWhole)
  (arg7 : Memref sig .tc .vmem S2x2x256x128 .f32) (harg7 : arg7.IsWhole) (arg8 : Memref sig .tc .vmem S2x2x256x128 .bf16) (harg8 : arg8.IsWhole)
  (arg9 : Memref sig .tc .vmem S2x2x256x128 .f32) (harg9 : arg9.IsWhole) (arg10 : Memref sig .tc .vmem S2x2x256x128 .f32) (harg10 : arg10.IsWhole)
  (arg11 : Memref sig .tc .vmem S2x2x256x128 .f32) (harg11 : arg11.IsWhole)
  (arg12 : Memref sig .tc .vmem S2x256x128 .f32) (harg12 : arg12.IsWhole) (arg13 : Memref sig .tc .vmem S2x256x128 .f32) (harg13 : arg13.IsWhole)
  (v11 v14 : FVec F S256x128 .bf16) (v24 : FVec F S128x256 .bf16)
  (x4 x5 : Vec F S2048x128 .f32)

/-- What the loop holds: the keys and values at their contents, the scratch at any. -/
def held : sProp 𝕄 :=
  iprop(owns (c : Thread nD τ) arg4 fullShare x4 ∗ owns (c : Thread nD τ) arg5 fullShare x5
    ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d)
    ∗ (∃ d, owns (c : Thread nD τ) arg13 fullShare d))

/-- The loop's specification: it gives back what it holds, and some pair and flag. -/
def spec : sWPT 𝕄 (BitVec 32 × BitVec 1) := do
  sWPT.consume (held c arg4 arg5 arg7 arg8 arg9 arg10 arg11 arg12 arg13 x4 x5)
  let r ← sWPT.arbitrary
  sWPT.produce (held c arg4 arg5 arg7 arg8 arg9 arg10 arg11 arg12 arg13 x4 x5)
  pure r

theorem spec_apply (K : BitVec 32 × BitVec 1 → sProp 𝕄) :
    spec c arg4 arg5 arg7 arg8 arg9 arg10 arg11 arg12 arg13 x4 x5 K
      = iprop(held c arg4 arg5 arg7 arg8 arg9 arg10 arg11 arg12 arg13 x4 x5
          ∗ ∀ r : BitVec 32 × BitVec 1, (held c arg4 arg5 arg7 arg8 arg9 arg10 arg11 arg12 arg13 x4 x5 -∗ K r)) := rfl

theorem spec_le (E : Set ℕ) : ∀ k p, p + k = (i 2).val + 1 → ∀ (b : BitVec 1) K,
    spec c arg4 arg5 arg7 arg8 arg9 arg10 arg11 arg12 arg13 x4 x5 K
      ⊢ wp frame (wpE (defs₀ (F := F)) 𝒱₀ (c : Thread nD τ) (some k)) E
          (defs₀ (F := F) .tc 1 ⟨i, arg4, harg4, v11, arg7, harg7, v14, arg8, harg8, v24, arg9, harg9, arg10, harg10, arg11, harg11,
            arg5, harg5, arg12, harg12, arg13, harg13, BitVec.ofNat 32 p, b⟩) K := by
  have hx := (i 2).isLt
  have hx' : (i 2).val < 8 := hx
  intro k
  induction k with
  | zero =>
    intro p hp b K
    rw [spec_apply]
    show _ ⊢ wp frame (wpE (defs₀ (F := F)) 𝒱₀ (c : Thread nD τ) (some 0)) E
      (cc0_while1 i arg4 harg4 v11 arg7 harg7 v14 arg8 harg8 v24 arg9 harg9 arg10 harg10 arg11 harg11
        arg5 harg5 arg12 harg12 arg13 harg13 (BitVec.ofNat 32 p) b) K
    simp only [cc0_while1_eq_skeleton]; unfold cc0_while1_skel
    have htest := mt (goes_iff (i 2) ⟨p, by omega⟩ b).mp (fun h => absurd h.1 (by show ¬ p ≤ (i 2).val; omega))
    iintro ⟨H, Hk⟩
    sl_exec
    rw [wp_ret]; imodintro
    iapply Hk
    iexact H
  | succ k ih =>
    intro p hp b K
    rw [spec_apply]
    show _ ⊢ wp frame (wpE (defs₀ (F := F)) 𝒱₀ (c : Thread nD τ) (some (k + 1))) E
      (cc0_while1 i arg4 harg4 v11 arg7 harg7 v14 arg8 harg8 v24 arg9 harg9 arg10 harg10 arg11 harg11
        arg5 harg5 arg12 harg12 arg13 harg13 (BitVec.ofNat 32 p) b) K
    simp only [cc0_while1_eq_skeleton]; unfold cc0_while1_skel
    by_cases hb : b = 1#1
    · have htest := (goes_iff (i 2) ⟨p, by omega⟩ b).mpr ⟨by show p ≤ (i 2).val; omega, hb⟩
      have hchk := chk i ⟨p, by omega⟩
      simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
      unfold held owns
      iintro ⟨⟨⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
      sl_exec
      rw [addi_one ⟨p, by omega⟩]
      iapply (wp_call_spec 𝒱₀ (c : Thread nD τ) (some (k + 1)) E (spec c arg4 arg5 arg7 arg8 arg9 arg10 arg11 arg12 arg13 x4 x5) k
        (fun u hu => by cases hu; exact Nat.lt_succ_self k) (ih (p + 1) (by omega) _))
      rw [spec_apply]; unfold held owns
      isplitl [H4 H5 H7 H8 H9 H10 H11 H12 H13]
      · isplitl [H4]
        · iexists _; isplitr; swap; · iexact H4
          ipureintro; exact hf4
        isplitl [H5]
        · iexists _; isplitr; swap; · iexact H5
          ipureintro; exact hf5
        isplitl [H7]
        · iexists _, _; isplitr; swap; · iexact H7
          ipureintro; rfl
        isplitl [H8]
        · iexists _, _; isplitr; swap; · iexact H8
          ipureintro; rfl
        isplitl [H9]
        · iexists _, _; isplitr; swap; · iexact H9
          ipureintro; rfl
        isplitl [H10]
        · iexists _, _; isplitr; swap; · iexact H10
          ipureintro; rfl
        isplitl [H11]
        · iexists _, _; isplitr; swap; · iexact H11
          ipureintro; rfl
        isplitl [H12]
        · iexists _, _; isplitr; swap; · iexact H12
          ipureintro; rfl
        iexists _, _; isplitr; swap; · iexact H13
        ipureintro; rfl
      iintro %r H
      rw [wp_ret]; imodintro
      iapply Hk
      iexact H
    · have htest := mt (goes_iff (i 2) ⟨p, by omega⟩ b).mp (fun h => absurd h.2 hb)
      iintro ⟨H, Hk⟩
      sl_exec
      rw [wp_ret]; imodintro
      iapply Hk
      iexact H

end Label

end Cert.Proof.SbFrame
-- ==== Proof.SbFrame.lean ====
/- The stick-breaking kernel's frame: from any memory it ends, its argument is unchanged and no semaphore is left raised. Of the
   result nothing is said here (its window is forgotten); `SbValue.lean` says what it is, in exact arithmetic.

   `kernelRun` runs the body at one point: the straight part, then the loop by `spec_le`. -/
module

public import proofs.«01_k».proof.Proof.SbLoop

@[expose] public section

set_option maxRecDepth 16384

noncomputable section

namespace Cert.Proof.SbFrame

open Cert.Sb Cert.Sb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one point -/

set_option maxHeartbeats 1000000 in
theorem kernelRun (c : Dev nD) (i : grid0.Coords)
    (arg3 : Memref sig .tc .vmem S256x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S256x128 .bf16) (harg6 : arg6.IsWhole)
    (arg7 : Memref sig .tc .vmem S2x2x256x128 .f32) (harg7 : arg7.IsWhole) (arg8 : Memref sig .tc .vmem S2x2x256x128 .bf16) (harg8 : arg8.IsWhole)
    (arg9 : Memref sig .tc .vmem S2x2x256x128 .f32) (harg9 : arg9.IsWhole) (arg10 : Memref sig .tc .vmem S2x2x256x128 .f32) (harg10 : arg10.IsWhole)
    (arg11 : Memref sig .tc .vmem S2x2x256x128 .f32) (harg11 : arg11.IsWhole)
    (arg12 : Memref sig .tc .vmem S2x256x128 .f32) (harg12 : arg12.IsWhole) (arg13 : Memref sig .tc .vmem S2x256x128 .f32) (harg13 : arg13.IsWhole)
    (x3 : Vec F S256x128 .f32) (x4 x5 : Vec F S2048x128 .f32) (K : PUnit → sProp 𝕄) :
    iprop(owns (c : Thread nD τ) arg3 fullShare x3 ∗ (∃ d, owns (c : Thread nD τ) arg6 fullShare d)
        ∗ held c arg4 arg5 arg7 arg8 arg9 arg10 arg11 arg12 arg13 x4 x5
        ∗ (iprop(owns (c : Thread nD τ) arg3 fullShare x3 ∗ (∃ d, owns (c : Thread nD τ) arg6 fullShare d)
            ∗ held c arg4 arg5 arg7 arg8 arg9 arg10 arg11 arg12 arg13 x4 x5) -∗ K ⟨⟩))
      ⊢ wp frame (wpE (defs₀ (F := F)) 𝒱₀ (c : Thread nD τ) none) Set.univ
          (cc0_stick_breaking i arg3 harg3 arg4 harg4 arg5 harg5 arg6 harg6 arg7 harg7 arg8 harg8 arg9 harg9 arg10 harg10
            arg11 harg11 arg12 harg12 arg13 harg13) K := by
  have hx : (i 2).val < 8 := (i 2).isLt
  simp only [cc0_stick_breaking_eq_skeleton]; unfold cc0_stick_breaking_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold held owns
  iintro ⟨⟨%f3, %hf3, H3⟩, ⟨%d6, %f6, -, H6⟩, ⟨⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  sl_exec
  iapply (wp_call_spec 𝒱₀ (c : Thread nD τ) none Set.univ (spec c arg4 arg5 arg7 arg8 arg9 arg10 arg11 arg12 arg13 x4 x5) (i 2).val
    (fun u hu => nomatch hu) (spec_le c i arg4 harg4 arg5 harg5 arg7 harg7 arg8 harg8 arg9 harg9 arg10 harg10 arg11 harg11 arg12 harg12 arg13 harg13 _ _ _ x4 x5 Set.univ (i 2).val 1 (by omega) _))
  rw [spec_apply]; unfold held owns
  isplitl [H4 H5 H7 H8 H9 H10 H11 H12 H13]
  · isplitl [H4]
    · iexists _; isplitr; swap; · iexact H4
      ipureintro; exact hf4
    isplitl [H5]
    · iexists _; isplitr; swap; · iexact H5
      ipureintro; exact hf5
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  iintro %r ⟨H4, H5, H7, H8, H9, H10, H11, H12, ⟨%e13, %g13, -, H13⟩⟩
  sl_exec
  sl_step
  iapply Hk
  isplitl [H3]
  · iexists _; isplitr; swap; · iexact H3
    ipureintro; exact hf3
  isplitl [H6]
  · iexists _, _; isplitr; swap; · iexact H6
    ipureintro; rfl
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexists _, _; isplitr; swap; · iexact H13
  ipureintro; rfl

/-! ## The proof data -/

/-- The buffers when the kernel begins: after the host's reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The reshape leaves the argument as it was. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- The block of window `w` at the point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's window, forgotten. -/
def fgt : Fin 4 → Bool := ![false, false, false, true]

/-- The inputs' blocks are left as they were; of the result's nothing is said. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0 (F := F)) 3 t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]
theorem after_0 (c : Dev nD) (t : Fin (cfg0 (F := F)).N) : (dats m 0 c).after 0 t = iblk m c 0 t := by
  dsimp only [dats]; rfl
theorem after_1 (c : Dev nD) (t : Fin (cfg0 (F := F)).N) : (dats m 0 c).after 1 t = iblk m c 1 t := by
  dsimp only [dats]; rfl
theorem after_2 (c : Dev nD) (t : Fin (cfg0 (F := F)).N) : (dats m 0 c).after 2 t = iblk m c 2 t := by
  dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation and the launch -/

abbrev ms (t : Fin (cfg0 (F := F)).N) : Memref sig .tc .vmem S256x128 .f32 := win0_0.stage ((cfg0 (F := F)).slots t 0)
abbrev ms1 (t : Fin (cfg0 (F := F)).N) : Memref sig .tc .vmem S2048x128 .f32 := win0_1.stage ((cfg0 (F := F)).slots t 1)
abbrev ms2 (t : Fin (cfg0 (F := F)).N) : Memref sig .tc .vmem S2048x128 .f32 := win0_2.stage ((cfg0 (F := F)).slots t 2)
abbrev ms3 (t : Fin (cfg0 (F := F)).N) : Memref sig .tc .vmem S256x128 .bf16 := win0_3.stage ((cfg0 (F := F)).slots t 3)

abbrev sc0 : Memref sig .tc .vmem S2x2x256x128 .f32 := Memref.whole cc0_scratch0
abbrev sc1 : Memref sig .tc .vmem S2x2x256x128 .bf16 := Memref.whole cc0_scratch1
abbrev sc2 : Memref sig .tc .vmem S2x2x256x128 .f32 := Memref.whole cc0_scratch2
abbrev sc3 : Memref sig .tc .vmem S2x2x256x128 .f32 := Memref.whole cc0_scratch3
abbrev sc4 : Memref sig .tc .vmem S2x2x256x128 .f32 := Memref.whole cc0_scratch4
abbrev sc5 : Memref sig .tc .vmem S2x256x128 .f32 := Memref.whole cc0_scratch5
abbrev sc6 : Memref sig .tc .vmem S2x256x128 .f32 := Memref.whole cc0_scratch6

/-- What a point takes over and hands on: the scratch at any contents, and the generator's register. -/
theorem Phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)
          ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

def bodyPre (c : Dev nD) (t : Fin (cfg0 (F := F)).N) : sProp 𝕄 :=
  iprop((dats m 0 c).Φ t.castSucc ∗ (dats m 0 c).owesAt () t.castSucc
    ∗ (∃ d, owns (c : Thread nD τ) (ms t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

def bodyPost (c : Dev nD) (t : Fin (cfg0 (F := F)).N) : sProp 𝕄 :=
  iprop((dats m 0 c).Φ t.succ ∗ (dats m 0 c).owesAt () t.succ
    ∗ owns (c : Thread nD τ) (ms t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

set_option maxHeartbeats 800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl, Phi_eq]
  iintro ⟨⟨⟨S0, S1, S2, S3, S4, S5, S6⟩, Hg⟩, Ho, ⟨%d0, H0⟩, ⟨%d1, H1⟩, ⟨%d2, H2⟩, ⟨%d3, H3⟩⟩
  iapply (kernelRun c (grid0.coords t) _ _ _ _ _ _ _ _ _ _ _ _ _ _ _ _ _ _ _ _ _ _ (iblk m c 0 t) (iblk m c 1 t) (iblk m c 2 t))
  unfold held
  isplitl [H0]; · iexact H0
  isplitl [H3]; · iexists _; iexact H3
  isplitl [H1 H2 S0 S1 S2 S3 S4 S5 S6]
  · isplitl [H1]; · iexact H1
    isplitl [H2]; · iexact H2
    isplitl [S0]; · iexact S0
    isplitl [S1]; · iexact S1
    isplitl [S2]; · iexact S2
    isplitl [S3]; · iexact S3
    isplitl [S4]; · iexact S4
    isplitl [S5]; · iexact S5
    iexact S6
  iintro ⟨H0, H3, ⟨H1, H2, S0, S1, S2, S3, S4, S5, S6⟩⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  iexact H3

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, bigSep_W0, defs₀_row]
  exact triple_restated (sound_body m c t) rfl .rfl fun _ => .rfl

-- the launch theorem's implicit arguments are found by unifying its conclusion, which unfolds definitions in types
set_option backward.isDefEq.respectTransparency.types false in
theorem run_main : θ_run defs (onTc (τ := τ) (main (F := F))) (s₀ m ρ)
    (fun r => Pipeline.RDat.FramePost (cfgs (F := F) 0) (fun c => (dats m 0 c).toRForget fgt) (V m) r ∧ r.2.sem = fun _ => 0) :=
  Pipeline.θ_run_frame_forget_shared (Q' := _) (cfgs (F := F)) (dats m) (0 : Fin 1) launch₀0 defs₀ 𝒱₀ fgt m ρ main
    (hbody := fun c => (body_obligation m c).loose) (hq := fun _ _ _ => rfl)
    (howed := fun _ _ => rfl) (V := V m) (hmain := hmain m) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c =>
    ((h.1 c).2 main_arg0 (Pipeline.mem_restRefs_of main_arg0 (by decide)
      fun w => (by decide : ∀ w : Fin 4, (spec0 w).arr.view.ref ≠ main_arg0) w)).trans (V_arg m c), h.2⟩) (run_main m ρ)

end Cert.Proof.SbFrame
-- ==== Proof.SbSteps.lean ====
/- The stick-breaking kernel's values, tile by tile, as the kernel computes them from the query tile (one head's, `q`), the
   keys `x4` and the values `x5`. Tile `n` is the one `n` tiles before the last that the query tile sees; the first two are
   masked. `zT` are the logits, `sT` the softplus, `lT` the log of the break, `eT` that plus what the tile's earlier breaks
   leave, `rT` the whole tile's rest, `cT` the rest of the tiles before `n`, `aT` the result of the tiles before `n`. -/
module

public import proofs.«01_k».proof.Proof.SbLoop
public import proofs.«01_k».proof.Proof.Gen.SbIdeal.Launch
public import proofs.«01_k».proof.Proof.Gen.SbIdeal.Skeleton
public import proofs.«01_k».proof.Proof.Gen.SbIdeal.Points
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Proof.SbValue

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The words of the query tile and of the number of key tiles. -/
abbrev qw (i : grid0.Coords) : BitVec 32 := BitVec.ofNat 32 (i 2).val
abbrev nw (i : grid0.Coords) : BitVec 32 := Scalar.muli (Scalar.addi (qw i) 1#32) 2#32

/-- Tile `n` of the keys or values. -/
def tile (i : grid0.Coords) (x : Vec F S2048x128 .f32) (n : ℕ) : Vec F S128x128 .f32 := fun y =>
  x (ix2 ⟨128 * (2 * (i 2).val + 1 - n) + (y 0).val, by
        have h1 : (i 2).val < 8 := (i 2).isLt
        have h2 : (y 0).val < 128 := (y 0).isLt
        omega⟩ ⟨(y 1).val, (y 1).isLt⟩)

section Steps

variable (i : grid0.Coords) (q : FVec F S256x128 .bf16) (tl : FVec F S128x256 .bf16) (x4 x5 : Vec F S2048x128 .f32)

def zT (n : ℕ) : Vec F S1x1x256x128 .f32 := k0_pay116 q (tile i x4 n)

def sT : ℕ → Vec F S1x1x256x128 .bf16
  | 0 => k0_pay21 (nw i) (k0_pay17 (zT i q x4 0)) (k0_pay19 (qw i)) 1#32
  | 1 => k0_pay47 (k0_pay42 (zT i q x4 1)) (k0_pay46 (qw i) (nw i)) (Scalar.ofBits .f32 0x00000000#32)
  | n + 2 => k0_pay137 (zT i q x4 (n + 2))

def lT : ℕ → Vec F S1x1x256x128 .f32
  | 0 => k0_pay22 (nw i) (k0_pay18 (zT i q x4 0)) (k0_pay19 (qw i)) 1#32
  | 1 => k0_pay48 (k0_pay43 (zT i q x4 1)) (k0_pay44 (qw i)) (k0_pay45 (nw i))
  | n + 2 => k0_pay138 (k0_pay136 (zT i q x4 (n + 2)))

def eT (n : ℕ) : Vec F S1x1x256x128 .f32 := k0_pay120 (k0_pay119 tl (sT i q x4 n) (lT i q x4 n))
def rT (n : ℕ) : Vec F S1x1x256x128 .f32 := k0_pay121 (k0_pay118 tl (sT i q x4 n))

def cT : ℕ → Vec F S1x256x128 .f32
  | 0 => broadcast S1x256x128 (Scalar.ofBits .f32 0x00000000#32)
  | n + 1 => k0_pay128 (cT n) (rT i q tl x4 n)

def aT : ℕ → Vec F S1x256x128 .f32
  | 0 => broadcast S1x256x128 (Scalar.ofBits .f32 0x00000000#32)
  | n + 1 => k0_pay127 (k0_pay125 (tile i x5 n)) (cT i q tl x4 n) (eT i q tl x4 n) (aT n)

end Steps

/-- A load of 128 rows of the keys or values is a tile. -/
theorem load_tile {arg : Memref sig .tc .vmem S2048x128 .f32} (i : grid0.Coords) (f : arg.view.ty.Contents (Elt F))
    (x : Vec F S2048x128 .f32) (hf : arg.view.read (Elt F) f = x) (off : Fin 2 → ℕ) (n : ℕ)
    (hoff : off = ![128 * (2 * (i 2).val + 1 - n), 0]) (inb : ∀ a, off a + S128x128.size a ≤ S2048x128.size a) :
    arg.view.readAt (Elt F) (Rect.unit (s := S2048x128) off S128x128.size inb).toLoadRect f = tile i x n := by
  subst hf hoff
  funext y
  show arg.view.read (Elt F) f _ = arg.view.read (Elt F) f _
  congr 1
  funext a
  apply Fin.ext
  fin_cases a
  · show _ + 1 * (y 0).val = _ + (y 0).val; simp
  · show 0 + 1 * (y 1).val = (y 1).val; simp

/-- The offsets of the straight part's tiles and of the loop's. -/
theorem off1 (i : grid0.Coords) (n : Fin 20) : k0_off1 i (BitVec.ofNat 32 n.val) = ![128 * (2 * (i 2).val + 1 - n.val), 0] := by
  rw [← SbFrame.row_eq (i 2) n]; rfl
theorem off2 (i : grid0.Coords) (p : Fin 8) : k0_off2 i (BitVec.ofNat 32 p.val) = ![128 * (2 * (i 2).val + 1 - (2 * p.val + 3)), 0] := by
  have := p.isLt
  rw [← SbFrame.row_of (i 2) ⟨2 * p.val + 3, by omega⟩ _ (SbFrame.w2 p)]; rfl
theorem off3 (i : grid0.Coords) (p : Fin 8) : k0_off3 i (BitVec.ofNat 32 p.val) = ![128 * (2 * (i 2).val + 1 - 2 * p.val), 0] := by
  have := p.isLt
  rw [← SbFrame.row_of (i 2) ⟨2 * p.val, by omega⟩ _ (SbFrame.w3 p)]; rfl
theorem off4 (i : grid0.Coords) (p : Fin 8) : k0_off4 i (BitVec.ofNat 32 p.val) = ![128 * (2 * (i 2).val + 1 - (2 * p.val + 4)), 0] := by
  have := p.isLt
  rw [← SbFrame.row_of (i 2) ⟨2 * p.val + 4, by omega⟩ _ (SbFrame.w4 p)]; rfl
theorem off5 (i : grid0.Coords) (p : Fin 8) : k0_off5 i (BitVec.ofNat 32 p.val) = ![128 * (2 * (i 2).val + 1 - (2 * p.val + 1)), 0] := by
  have := p.isLt
  rw [← SbFrame.row_of (i 2) ⟨2 * p.val + 1, by omega⟩ _ (SbFrame.w5 p)]; rfl

/-- The loop's check, at every pair. -/
theorem chk (i : grid0.Coords) (p : Fin 8) : k0_chk1 i (BitVec.ofNat 32 p.val) := by
  have h := SbFrame.chk i p
  exact ⟨h.1, h.2.1, h.2.2.1, h.2.2.2.1, h.2.2.2.2.1, h.2.2.2.2.2.1, h.2.2.2.2.2.2.1, h.2.2.2.2.2.2.2⟩

end Cert.Proof.SbValue
-- ==== Proof.SbTrip.lean ====
/- The loop of the stick-breaking kernel, with its values: the scratch at the start of pair `p` holds the two heads' logits of tile
   2p + 2, softplus and log break of tile 2p + 1, terms of tile 2p, and the rest and the result of the tiles before 2p (`at7` …
   `at13`). A pair of tiles takes that from `p` to `p + 1` (`spec_le`), so that the loop ends with the result of all the tiles. -/
module

public import proofs.«01_k».proof.Proof.SbSteps

@[expose] public section

set_option maxRecDepth 16384

noncomputable section

namespace Cert.Proof.SbValue

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

/-- A load after the stores that came before it: what the last of them wrote, where it is of the same rectangle; what was there without
    it, where it is of a disjoint one. -/
theorem rd_here {κ : Kind} {sp : Space} {s : Shape} {e : EltTy} {Val : EltTy → Type} [∀ e, Nonempty (Val e)] (v : View sig κ sp s e)
    (f : v.ty.Contents Val) (r : Rect s) (w : r.shape.Idx → Val e) (L : List (View.Piece Val s e)) :
    v.readAt Val r.toLoadRect (v.writes Val f (⟨r, w⟩ :: L)) = w := by
  rw [View.readAt_writes_of_cover v f _ _ fun j => ⟨⟨r, w⟩, List.mem_cons_self .., by
    rw [← Rect.map_emb_univ]; exact Finset.mem_map_of_mem r.emb (Finset.mem_univ j)⟩, View.readCov_cons_toLoadRect]
theorem rd_skip {κ : Kind} {sp : Space} {s : Shape} {e : EltTy} {Val : EltTy → Type} (v : View sig κ sp s e)
    (f : v.ty.Contents Val) (r : Rect s) (w : r.shape.Idx → Val e) (L : List (View.Piece Val s e)) (B : LoadRect s)
    (h : LoadRect.disj r B = true) :
    v.readAt Val B (v.writes Val f (⟨r, w⟩ :: L)) = v.readAt Val B (v.writes Val f L) :=
  funext fun j => View.read_slice_write_of_not_mem r _ w Finset.univ
    (by rw [Rect.map_emb_univ]; exact LoadRect.idx_not_mem_of_disj h j)

section Holds

variable (i : grid0.Coords) (v11 v14 : FVec F S256x128 .bf16) (v24 : FVec F S128x256 .bf16) (x4 x5 : Vec F S2048x128 .f32)

/-- Two rectangles of a scratch, one of each head, at given contents. -/
def at7 (n : ℕ) {arg : Memref sig .tc .vmem S2x2x256x128 .f32} (f : arg.view.ty.Contents (Elt F)) : Prop :=
  arg.view.readAt (Elt F) (Rect.unit (s := S2x2x256x128) ![0, 0, 0, 0] S1x1x256x128.size inb_S2x2x256x128_S1x1x256x128_0_0_0_0).toLoadRect f = zT i v11 x4 n ∧ arg.view.readAt (Elt F) (Rect.unit (s := S2x2x256x128) ![1, 0, 0, 0] S1x1x256x128.size inb_S2x2x256x128_S1x1x256x128_1_0_0_0).toLoadRect f = zT i v14 x4 n
def at8 (n : ℕ) {arg : Memref sig .tc .vmem S2x2x256x128 .bf16} (f : arg.view.ty.Contents (Elt F)) : Prop :=
  arg.view.readAt (Elt F) (Rect.unit (s := S2x2x256x128) ![0, 1, 0, 0] S1x1x256x128.size inb_S2x2x256x128_S1x1x256x128_0_1_0_0).toLoadRect f = sT i v11 x4 n ∧ arg.view.readAt (Elt F) (Rect.unit (s := S2x2x256x128) ![1, 1, 0, 0] S1x1x256x128.size inb_S2x2x256x128_S1x1x256x128_1_1_0_0).toLoadRect f = sT i v14 x4 n
def at9 (n : ℕ) {arg : Memref sig .tc .vmem S2x2x256x128 .f32} (f : arg.view.ty.Contents (Elt F)) : Prop :=
  arg.view.readAt (Elt F) (Rect.unit (s := S2x2x256x128) ![0, 1, 0, 0] S1x1x256x128.size inb_S2x2x256x128_S1x1x256x128_0_1_0_0).toLoadRect f = lT i v11 x4 n ∧ arg.view.readAt (Elt F) (Rect.unit (s := S2x2x256x128) ![1, 1, 0, 0] S1x1x256x128.size inb_S2x2x256x128_S1x1x256x128_1_1_0_0).toLoadRect f = lT i v14 x4 n
def at10 (n : ℕ) {arg : Memref sig .tc .vmem S2x2x256x128 .f32} (f : arg.view.ty.Contents (Elt F)) : Prop :=
  arg.view.readAt (Elt F) (Rect.unit (s := S2x2x256x128) ![0, 0, 0, 0] S1x1x256x128.size inb_S2x2x256x128_S1x1x256x128_0_0_0_0).toLoadRect f = eT i v11 v24 x4 n ∧ arg.view.readAt (Elt F) (Rect.unit (s := S2x2x256x128) ![1, 0, 0, 0] S1x1x256x128.size inb_S2x2x256x128_S1x1x256x128_1_0_0_0).toLoadRect f = eT i v14 v24 x4 n
def at11 (n : ℕ) {arg : Memref sig .tc .vmem S2x2x256x128 .f32} (f : arg.view.ty.Contents (Elt F)) : Prop :=
  arg.view.readAt (Elt F) (Rect.unit (s := S2x2x256x128) ![0, 0, 0, 0] S1x1x256x128.size inb_S2x2x256x128_S1x1x256x128_0_0_0_0).toLoadRect f = rT i v11 v24 x4 n ∧ arg.view.readAt (Elt F) (Rect.unit (s := S2x2x256x128) ![1, 0, 0, 0] S1x1x256x128.size inb_S2x2x256x128_S1x1x256x128_1_0_0_0).toLoadRect f = rT i v14 v24 x4 n
def at12 (n : ℕ) {arg : Memref sig .tc .vmem S2x256x128 .f32} (f : arg.view.ty.Contents (Elt F)) : Prop :=
  arg.view.readAt (Elt F) (Rect.unit (s := S2x256x128) ![0, 0, 0] S1x256x128.size inb_S2x256x128_S1x256x128_0_0_0).toLoadRect f = cT i v11 v24 x4 n ∧ arg.view.readAt (Elt F) (Rect.unit (s := S2x256x128) ![1, 0, 0] S1x256x128.size inb_S2x256x128_S1x256x128_1_0_0).toLoadRect f = cT i v14 v24 x4 n
def at13 (n : ℕ) {arg : Memref sig .tc .vmem S2x256x128 .f32} (f : arg.view.ty.Contents (Elt F)) : Prop :=
  arg.view.readAt (Elt F) (Rect.unit (s := S2x256x128) ![0, 0, 0] S1x256x128.size inb_S2x256x128_S1x256x128_0_0_0).toLoadRect f = aT i v11 v24 x4 x5 n ∧ arg.view.readAt (Elt F) (Rect.unit (s := S2x256x128) ![1, 0, 0] S1x256x128.size inb_S2x256x128_S1x256x128_1_0_0).toLoadRect f = aT i v14 v24 x4 x5 n

/-- A memref held whole, at contents of a property. -/
abbrev heldAt (c : Dev nD) {s : Shape} {e : EltTy} (arg : Memref sig .tc .vmem s e) (P : arg.view.ty.Contents (Elt F) → Prop) : sProp 𝕄 :=
  iprop(∃ f : Buf (Elt F) (arg.view.loc (c : Thread nD τ)), ⌜P f⌝ ∗ (arg.view.loc (c : Thread nD τ) ↦[arg.view.set]{fullShare} f))

variable (c : Dev nD)
  (arg4 : Memref sig .tc .vmem S2048x128 .f32) (arg5 : Memref sig .tc .vmem S2048x128 .f32)
  (arg7 : Memref sig .tc .vmem S2x2x256x128 .f32) (arg8 : Memref sig .tc .vmem S2x2x256x128 .bf16)
  (arg9 : Memref sig .tc .vmem S2x2x256x128 .f32) (arg10 : Memref sig .tc .vmem S2x2x256x128 .f32)
  (arg11 : Memref sig .tc .vmem S2x2x256x128 .f32) (arg12 : Memref sig .tc .vmem S2x256x128 .f32) (arg13 : Memref sig .tc .vmem S2x256x128 .f32)

/-- What the loop holds at the start of pair `p`. -/
def held (p : ℕ) : sProp 𝕄 :=
  iprop(heldAt c arg4 (fun f => arg4.view.read (Elt F) f = x4) ∗ heldAt c arg5 (fun f => arg5.view.read (Elt F) f = x5)
    ∗ heldAt c arg7 (at7 i v11 v14 x4 (2 * p + 2)) ∗ heldAt c arg8 (at8 i v11 v14 x4 (2 * p + 1))
    ∗ heldAt c arg9 (at9 i v11 v14 x4 (2 * p + 1)) ∗ heldAt c arg10 (at10 i v11 v14 v24 x4 (2 * p))
    ∗ heldAt c arg11 (at11 i v11 v14 v24 x4 (2 * p)) ∗ heldAt c arg12 (at12 i v11 v14 v24 x4 (2 * p))
    ∗ heldAt c arg13 (at13 i v11 v14 v24 x4 x5 (2 * p)))

/-- The loop's specification: from the start of pair `p` to the start of the pair after the last. -/
def spec (p : ℕ) : sWPT 𝕄 (BitVec 32 × BitVec 1) := do
  sWPT.consume (held i v11 v14 v24 x4 x5 c arg4 arg5 arg7 arg8 arg9 arg10 arg11 arg12 arg13 p)
  let r ← sWPT.arbitrary
  sWPT.produce (held i v11 v14 v24 x4 x5 c arg4 arg5 arg7 arg8 arg9 arg10 arg11 arg12 arg13 ((i 2).val + 1))
  pure r

theorem spec_apply (p : ℕ) (K : BitVec 32 × BitVec 1 → sProp 𝕄) :
    spec i v11 v14 v24 x4 x5 c arg4 arg5 arg7 arg8 arg9 arg10 arg11 arg12 arg13 p K
      = iprop(held i v11 v14 v24 x4 x5 c arg4 arg5 arg7 arg8 arg9 arg10 arg11 arg12 arg13 p
          ∗ ∀ r : BitVec 32 × BitVec 1,
            (held i v11 v14 v24 x4 x5 c arg4 arg5 arg7 arg8 arg9 arg10 arg11 arg12 arg13 ((i 2).val + 1) -∗ K r)) := rfl

variable (harg4 : arg4.IsWhole) (harg5 : arg5.IsWhole) (harg7 : arg7.IsWhole) (harg8 : arg8.IsWhole) (harg9 : arg9.IsWhole)
  (harg10 : arg10.IsWhole) (harg11 : arg11.IsWhole) (harg12 : arg12.IsWhole) (harg13 : arg13.IsWhole)

set_option maxHeartbeats 1000000 in
/-- The loop meets it, where the flag never falls (as in exact arithmetic, where the constant it compares with is −∞). -/
theorem spec_le (hflag : ∀ x : F .f32, Scalar.cmpf .oge x (Named.named κ "dead" 0xC3168000#32) = 1#1) (E : Set ℕ) :
    ∀ k p, p + k = (i 2).val + 1 → ∀ K,
    spec i v11 v14 v24 x4 x5 c arg4 arg5 arg7 arg8 arg9 arg10 arg11 arg12 arg13 p K
      ⊢ wp frame (wpE (defs₀ (F := F)) 𝒱₀ (c : Thread nD τ) (some k)) E
          (defs₀ (F := F) .tc 1 ⟨i, arg4, harg4, v11, arg7, harg7, v14, arg8, harg8, v24, arg9, harg9, arg10, harg10, arg11, harg11,
            arg5, harg5, arg12, harg12, arg13, harg13, BitVec.ofNat 32 p, 1#1⟩) K := by
  have hx : (i 2).val < 8 := (i 2).isLt
  intro k
  induction k with
  | zero =>
    intro p hp K
    rw [spec_apply]
    show _ ⊢ wp frame (wpE (defs₀ (F := F)) 𝒱₀ (c : Thread nD τ) (some 0)) E
      (cc0_while1 i arg4 harg4 v11 arg7 harg7 v14 arg8 harg8 v24 arg9 harg9 arg10 harg10 arg11 harg11
        arg5 harg5 arg12 harg12 arg13 harg13 (BitVec.ofNat 32 p) 1#1) K
    simp only [cc0_while1_eq_skeleton]; unfold cc0_while1_skel
    have htest := mt (SbFrame.goes_iff (i 2) ⟨p, by omega⟩ 1#1).mp (fun h => absurd h.1 (by show ¬ p ≤ (i 2).val; omega))
    obtain rfl : p = (i 2).val + 1 := by omega
    iintro ⟨H, Hk⟩
    sl_exec
    rw [wp_ret]; imodintro
    iapply Hk
    iexact H
  | succ k ih =>
    intro p hp K
    rw [spec_apply]
    show _ ⊢ wp frame (wpE (defs₀ (F := F)) 𝒱₀ (c : Thread nD τ) (some (k + 1))) E
      (cc0_while1 i arg4 harg4 v11 arg7 harg7 v14 arg8 harg8 v24 arg9 harg9 arg10 harg10 arg11 harg11
        arg5 harg5 arg12 harg12 arg13 harg13 (BitVec.ofNat 32 p) 1#1) K
    simp only [cc0_while1_eq_skeleton]; unfold cc0_while1_skel
    have htest := (SbFrame.goes_iff (i 2) ⟨p, by omega⟩ 1#1).mpr ⟨by show p ≤ (i 2).val; omega, rfl⟩
    have hchk := chk i ⟨p, by omega⟩
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold held
    iintro ⟨⟨⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
    have hp8 : p < 8 := by omega
    have t2 := fun inb : ∀ a, k0_off2 i (BitVec.ofNat 32 p) a + S128x128.size a ≤ S2048x128.size a => load_tile i f4 x4 hf4 _ _ (off2 i ⟨p, hp8⟩) inb
    have t4 := fun inb : ∀ a, k0_off4 i (BitVec.ofNat 32 p) a + S128x128.size a ≤ S2048x128.size a => load_tile i f4 x4 hf4 _ _ (off4 i ⟨p, hp8⟩) inb
    have t3 := fun inb : ∀ a, k0_off3 i (BitVec.ofNat 32 p) a + S128x128.size a ≤ S2048x128.size a => load_tile i f5 x5 hf5 _ _ (off3 i ⟨p, hp8⟩) inb
    have t5 := fun inb : ∀ a, k0_off5 i (BitVec.ofNat 32 p) a + S128x128.size a ≤ S2048x128.size a => load_tile i f5 x5 hf5 _ _ (off5 i ⟨p, hp8⟩) inb
    unfold at7 at hf7; unfold at8 at hf8; unfold at9 at hf9; unfold at10 at hf10; unfold at11 at hf11
    unfold at12 at hf12; unfold at13 at hf13
    sl_exec
    rw [SbFrame.addi_one ⟨p, by omega⟩, hflag]
    iapply (wp_call_spec 𝒱₀ (c : Thread nD τ) (some (k + 1)) E
      (spec i v11 v14 v24 x4 x5 c arg4 arg5 arg7 arg8 arg9 arg10 arg11 arg12 arg13 (p + 1)) k
      (fun u hu => by cases hu; exact Nat.lt_succ_self k) (ih (p + 1) (by omega)))
    rw [spec_apply]; unfold held
    isplitl [H4 H5 H7 H8 H9 H10 H11 H12 H13]
    · isplitl [H4]
      · iexists _; isplitr; swap; · iexact H4
        ipureintro; exact hf4
      isplitl [H5]
      · iexists _; isplitr; swap; · iexact H5
        ipureintro; exact hf5
      isplitl [H7]
      · iexists _; isplitr; swap; · iexact H7
        ipureintro; constructor <;>
        · unfold spec_le.sl.H7_4 spec_le.sl.r_7
          simp (disch := decide) only [↓rd_here, ↓rd_skip, ↓View.readCov_cons_toLoadRect, ↓View.readCov_skip, t2, t3, t4, t5, hf7, hf8, hf9, hf10, hf11, hf12, hf13]
          rfl
      isplitl [H8]
      · iexists _; isplitr; swap; · iexact H8
        ipureintro; constructor <;>
        · unfold spec_le.sl.v795 spec_le.sl.r_15 spec_le.sl.r_16 spec_le.sl.v817 spec_le.sl.H7_4
          simp (disch := decide) only [↓rd_here, ↓rd_skip, ↓View.readCov_cons_toLoadRect, ↓View.readCov_skip, t2, t3, t4, t5, hf7, hf8, hf9, hf10, hf11, hf12, hf13]
          rfl
      isplitl [H9]
      · iexists _; isplitr; swap; · iexact H9
        ipureintro; constructor <;>
        · unfold spec_le.sl.v795 spec_le.sl.r_14 spec_le.sl.r_15 spec_le.sl.r_16 spec_le.sl.v817 spec_le.sl.H7_4
          simp (disch := decide) only [↓rd_here, ↓rd_skip, ↓View.readCov_cons_toLoadRect, ↓View.readCov_skip, t2, t3, t4, t5, hf7, hf8, hf9, hf10, hf11, hf12, hf13]
          rfl
      isplitl [H10]
      · iexists _; isplitr; swap; · iexact H10
        ipureintro; constructor <;>
        · unfold spec_le.sl.H10_4 spec_le.sl.r_8 spec_le.sl.cst_614 spec_le.sl.v731 spec_le.sl.v734 spec_le.sl.v717 spec_le.sl.v720 spec_le.sl.H8_2 spec_le.sl.H9_2 spec_le.sl.r_6 spec_le.sl.v677 spec_le.sl.v655
          simp (disch := decide) only [↓rd_here, ↓rd_skip, ↓View.readCov_cons_toLoadRect, ↓View.readCov_skip, t2, t3, t4, t5, hf7, hf8, hf9, hf10, hf11, hf12, hf13]
          rfl
      isplitl [H11]
      · iexists _; isplitr; swap; · iexact H11
        ipureintro; constructor <;>
        · unfold spec_le.sl.H11_4 spec_le.sl.r_8 spec_le.sl.cst_614 spec_le.sl.v731 spec_le.sl.v717 spec_le.sl.H8_2 spec_le.sl.v677 spec_le.sl.v655
          simp (disch := decide) only [↓rd_here, ↓rd_skip, ↓View.readCov_cons_toLoadRect, ↓View.readCov_skip, t2, t3, t4, t5, hf7, hf8, hf9, hf10, hf11, hf12, hf13]
          rfl
      isplitl [H12]
      · iexists _; isplitr; swap; · iexact H12
        ipureintro; constructor <;>
        · unfold spec_le.sl.H12_4 spec_le.sl.r_13 spec_le.sl.v775 spec_le.sl.v789 spec_le.sl.H12_3 spec_le.sl.r_10 spec_le.sl.v755 spec_le.sl.v769 spec_le.sl.H12_2 spec_le.sl.r_3 spec_le.sl.v635 spec_le.sl.v649 spec_le.sl.v629 spec_le.sl.H11_4 spec_le.sl.r
          simp (disch := decide) only [↓rd_here, ↓rd_skip, ↓View.readCov_cons_toLoadRect, ↓View.readCov_skip, t2, t3, t4, t5, hf7, hf8, hf9, hf10, hf11, hf12, hf13]
          rfl
      iexists _; isplitr; swap; · iexact H13
      ipureintro; constructor <;>
        · unfold spec_le.sl.v775 spec_le.sl.v777 spec_le.sl.v781 spec_le.sl.H13_3 spec_le.sl.r_9 spec_le.sl.r_11 spec_le.sl.r_12 spec_le.sl.v761 spec_le.sl.v757 spec_le.sl.v755 spec_le.sl.H12_3 spec_le.sl.r_10 spec_le.sl.v755 spec_le.sl.v769 spec_le.sl.H12_2 spec_le.sl.r_3 spec_le.sl.v649 spec_le.sl.v629 spec_le.sl.H10_4 spec_le.sl.r_1 spec_le.sl.H11_4 spec_le.sl.r spec_le.sl.H13_2 spec_le.sl.r_2 spec_le.sl.r_4 spec_le.sl.r_5 spec_le.sl.v635 spec_le.sl.v637 spec_le.sl.v641 spec_le.sl.v617
          simp (disch := decide) only [↓rd_here, ↓rd_skip, ↓View.readCov_cons_toLoadRect, ↓View.readCov_skip, t2, t3, t4, t5, hf7, hf8, hf9, hf10, hf11, hf12, hf13]
          rfl
    iintro %r H
    rw [wp_ret]; imodintro
    iapply Hk
    iexact H

end Holds

end Cert.Proof.SbValue
-- ==== Proof.SbRun.lean ====
/- The stick-breaking kernel at one grid point, with its value: the straight part leaves the scratch as the loop's pair 1 wants it,
   and after the loop the block written is that of the two heads' results over all the tiles (`outT`). -/
module

public import proofs.«01_k».proof.Proof.SbTrip
public import Idealize.ShloMosaic.Lib.VecWindow

@[expose] public section

set_option maxRecDepth 16384

noncomputable section

namespace Cert.Proof.SbValue

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a point holds of its scratch before and after: whatever it is. -/
def heldAny (c : Dev nD) (arg4 arg5 : Memref sig .tc .vmem S2048x128 .f32)
    (arg7 : Memref sig .tc .vmem S2x2x256x128 .f32) (arg8 : Memref sig .tc .vmem S2x2x256x128 .bf16)
    (arg9 arg10 arg11 : Memref sig .tc .vmem S2x2x256x128 .f32) (arg12 arg13 : Memref sig .tc .vmem S2x256x128 .f32)
    (x4 x5 : Vec F S2048x128 .f32) : sProp 𝕄 :=
  iprop(owns (c : Thread nD τ) arg4 fullShare x4 ∗ owns (c : Thread nD τ) arg5 fullShare x5
    ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d)
    ∗ (∃ d, owns (c : Thread nD τ) arg13 fullShare d))

/-- The block a point writes: the two heads' results over all the tiles, side by side. -/
def outT (i : grid0.Coords) (x3 : Vec F S256x128 .f32) (x4 x5 : Vec F S2048x128 .f32) : Vec F S256x128 .bf16 :=
  k0_pay1 k0_pay6 (k0_pay114 (aT i (k0_pay8 x3) k0_pay10 x4 x5 (2 * ((i 2).val + 1))))
    (aT i (k0_pay9 x3) k0_pay10 x4 x5 (2 * ((i 2).val + 1)))

set_option maxHeartbeats 1000000 in
theorem kernelRun (c : Dev nD) (i : grid0.Coords)
    (arg3 : Memref sig .tc .vmem S256x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S256x128 .bf16) (harg6 : arg6.IsWhole)
    (arg7 : Memref sig .tc .vmem S2x2x256x128 .f32) (harg7 : arg7.IsWhole) (arg8 : Memref sig .tc .vmem S2x2x256x128 .bf16) (harg8 : arg8.IsWhole)
    (arg9 : Memref sig .tc .vmem S2x2x256x128 .f32) (harg9 : arg9.IsWhole) (arg10 : Memref sig .tc .vmem S2x2x256x128 .f32) (harg10 : arg10.IsWhole)
    (arg11 : Memref sig .tc .vmem S2x2x256x128 .f32) (harg11 : arg11.IsWhole)
    (arg12 : Memref sig .tc .vmem S2x256x128 .f32) (harg12 : arg12.IsWhole) (arg13 : Memref sig .tc .vmem S2x256x128 .f32) (harg13 : arg13.IsWhole)
    (hflag : ∀ x : F .f32, Scalar.cmpf .oge x (Named.named κ "dead" 0xC3168000#32) = 1#1)
    (x3 : Vec F S256x128 .f32) (x4 x5 : Vec F S2048x128 .f32) (K : PUnit → sProp 𝕄) :
    iprop(owns (c : Thread nD τ) arg3 fullShare x3 ∗ (∃ d, owns (c : Thread nD τ) arg6 fullShare d)
        ∗ heldAny c arg4 arg5 arg7 arg8 arg9 arg10 arg11 arg12 arg13 x4 x5
        ∗ (iprop(owns (c : Thread nD τ) arg3 fullShare x3 ∗ owns (c : Thread nD τ) arg6 fullShare (outT i x3 x4 x5)
            ∗ heldAny c arg4 arg5 arg7 arg8 arg9 arg10 arg11 arg12 arg13 x4 x5) -∗ K ⟨⟩))
      ⊢ wp frame (wpE (defs₀ (F := F)) 𝒱₀ (c : Thread nD τ) none) Set.univ
          (cc0_stick_breaking i arg3 harg3 arg4 harg4 arg5 harg5 arg6 harg6 arg7 harg7 arg8 harg8 arg9 harg9 arg10 harg10
            arg11 harg11 arg12 harg12 arg13 harg13) K := by
  have hx : (i 2).val < 8 := (i 2).isLt
  simp only [cc0_stick_breaking_eq_skeleton]; unfold cc0_stick_breaking_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold heldAny owns
  iintro ⟨⟨%f3, %hf3, H3⟩, ⟨%d6, %f6, -, H6⟩, ⟨⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
  have h3 : arg3.view.readAt (Elt F) (Rect.unit (s := S256x128) ![0, 0] S256x128.size inb_S256x128_S256x128_0_0).toLoadRect f3 = x3 := by
    rw [View.readAt_full]; exact hf3
  have t0 := fun inb : ∀ a, k0_off1 i 0#32 a + S128x128.size a ≤ S2048x128.size a => load_tile i f4 x4 hf4 _ _ (off1 i 0) inb
  have t1 := fun inb : ∀ a, k0_off1 i 1#32 a + S128x128.size a ≤ S2048x128.size a => load_tile i f4 x4 hf4 _ _ (off1 i 1) inb
  have t2 := fun inb : ∀ a, k0_off1 i 2#32 a + S128x128.size a ≤ S2048x128.size a => load_tile i f4 x4 hf4 _ _ (off1 i 2) inb
  have t3 := fun inb : ∀ a, k0_off1 i 3#32 a + S128x128.size a ≤ S2048x128.size a => load_tile i f4 x4 hf4 _ _ (off1 i 3) inb
  have t4 := fun inb : ∀ a, k0_off1 i 4#32 a + S128x128.size a ≤ S2048x128.size a => load_tile i f4 x4 hf4 _ _ (off1 i 4) inb
  have u0 := fun inb : ∀ a, k0_off1 i 0#32 a + S128x128.size a ≤ S2048x128.size a => load_tile i f5 x5 hf5 _ _ (off1 i 0) inb
  have u1 := fun inb : ∀ a, k0_off1 i 1#32 a + S128x128.size a ≤ S2048x128.size a => load_tile i f5 x5 hf5 _ _ (off1 i 1) inb
  sl_exec
  rw [show kernelRun.sl.v549 c i arg7 arg8 arg11 arg12 x3 x4 = 1#1 from hflag _]
  iapply (wp_call_spec 𝒱₀ (c : Thread nD τ) none Set.univ
    (spec i (k0_pay8 x3) (k0_pay9 x3) k0_pay10 x4 x5 c arg4 arg5 arg7 arg8 arg9 arg10 arg11 arg12 arg13 1) (i 2).val
    (fun u hu => nomatch hu) (spec_le i (k0_pay8 x3) (k0_pay9 x3) k0_pay10 x4 x5 c arg4 arg5 arg7 arg8 arg9 arg10 arg11 arg12 arg13
      harg4 harg5 harg7 harg8 harg9 harg10 harg11 harg12 harg13 hflag Set.univ (i 2).val 1 (by omega)))
  rw [spec_apply]; unfold held
  isplitl [H4 H5 H7 H8 H9 H10 H11 H12 H13]
  · isplitl [H4]
    · iexists _; isplitr; swap; · iexact H4
      ipureintro; exact hf4
    isplitl [H5]
    · iexists _; isplitr; swap; · iexact H5
      ipureintro; exact hf5
    isplitl [H7]
    · iexists _; isplitr; swap; · iexact H7
      ipureintro; constructor <;>
        · unfold kernelRun.sl.H7_10 kernelRun.sl.H7_9 kernelRun.sl.v418 kernelRun.sl.r_18 kernelRun.sl.v422 kernelRun.sl.v419
            kernelRun.sl.r_17
          simp (disch := decide) only [↓rd_here, ↓rd_skip, ↓View.readCov_cons_toLoadRect, ↓View.readCov_skip, ↓View.readCov_fill]
          rfl
    isplitl [H8]
    · iexists _; isplitr; swap; · iexact H8
      ipureintro; constructor <;>
        · unfold kernelRun.sl.v500 kernelRun.sl.r_21 kernelRun.sl.r_20 kernelRun.sl.v522 kernelRun.sl.H7_10 kernelRun.sl.H7_9
            kernelRun.sl.H7_8 kernelRun.sl.H7_7 kernelRun.sl.v280 kernelRun.sl.v277 kernelRun.sl.v284 kernelRun.sl.v281
            kernelRun.sl.v276 kernelRun.sl.v275
          simp (disch := decide) only [↓rd_here, ↓rd_skip, ↓View.readCov_cons_toLoadRect, ↓View.readCov_skip, ↓View.readCov_fill]
          rfl
    isplitl [H9]
    · iexists _; isplitr; swap; · iexact H9
      ipureintro; constructor <;>
        · unfold kernelRun.sl.v500 kernelRun.sl.r_21 kernelRun.sl.r_20 kernelRun.sl.r_19 kernelRun.sl.v522 kernelRun.sl.H7_10
            kernelRun.sl.H7_9 kernelRun.sl.H7_8 kernelRun.sl.H7_7 kernelRun.sl.v280 kernelRun.sl.v277 kernelRun.sl.v284
            kernelRun.sl.v281 kernelRun.sl.v276 kernelRun.sl.v275
          simp (disch := decide) only [↓rd_here, ↓rd_skip, ↓View.readCov_cons_toLoadRect, ↓View.readCov_skip, ↓View.readCov_fill]
          rfl
    isplitl [H10]
    · iexists _; isplitr; swap; · iexact H10
      ipureintro; constructor <;>
        · unfold kernelRun.sl.H10_6 kernelRun.sl.H10_5 kernelRun.sl.v432 kernelRun.sl.v429 kernelRun.sl.v428 kernelRun.sl.v425
            kernelRun.sl.v424 kernelRun.sl.v423 kernelRun.sl.v427 kernelRun.sl.v426 kernelRun.sl.v446 kernelRun.sl.v443
            kernelRun.sl.v442 kernelRun.sl.v439 kernelRun.sl.v438 kernelRun.sl.v437 kernelRun.sl.H8_6 kernelRun.sl.v441
            kernelRun.sl.v440 kernelRun.sl.H9_6 kernelRun.sl.r_16 kernelRun.sl.v362 kernelRun.sl.v384 kernelRun.sl.H7_8
            kernelRun.sl.H7_7 kernelRun.sl.H7_6 kernelRun.sl.r_15
          simp (disch := decide) only [↓rd_here, ↓rd_skip, ↓View.readCov_cons_toLoadRect, ↓View.readCov_skip, ↓View.readCov_fill]
          rfl
    isplitl [H11]
    · iexists _; isplitr; swap; · iexact H11
      ipureintro; constructor <;>
        · unfold kernelRun.sl.H11_6 kernelRun.sl.H11_5 kernelRun.sl.v436 kernelRun.sl.v433 kernelRun.sl.v425 kernelRun.sl.v424
            kernelRun.sl.v423 kernelRun.sl.v450 kernelRun.sl.v447 kernelRun.sl.v439 kernelRun.sl.v438 kernelRun.sl.v437
            kernelRun.sl.H8_6 kernelRun.sl.v362 kernelRun.sl.v384 kernelRun.sl.H7_8 kernelRun.sl.H7_7 kernelRun.sl.H7_6
            kernelRun.sl.r_15
          simp (disch := decide) only [↓rd_here, ↓rd_skip, ↓View.readCov_cons_toLoadRect, ↓View.readCov_skip, ↓View.readCov_fill]
          rfl
    isplitl [H12]
    · iexists _; isplitr; swap; · iexact H12
      ipureintro; constructor <;>
        · unfold kernelRun.sl.H12_5 kernelRun.sl.v499 kernelRun.sl.v496 kernelRun.sl.v495 kernelRun.sl.v494 kernelRun.sl.v481
            kernelRun.sl.v480 kernelRun.sl.H12_4 kernelRun.sl.v479 kernelRun.sl.v476 kernelRun.sl.v475 kernelRun.sl.v474
            kernelRun.sl.H11_6 kernelRun.sl.H11_5 kernelRun.sl.v461 kernelRun.sl.v460 kernelRun.sl.H12_3 kernelRun.sl.v356
            kernelRun.sl.v343 kernelRun.sl.v342 kernelRun.sl.H12_2 kernelRun.sl.v341 kernelRun.sl.v338 kernelRun.sl.v337
            kernelRun.sl.v336 kernelRun.sl.H11_4 kernelRun.sl.v158 kernelRun.sl.v155 kernelRun.sl.v147 kernelRun.sl.v146
            kernelRun.sl.v145 kernelRun.sl.v161 kernelRun.sl.v160 kernelRun.sl.v159 kernelRun.sl.v298 kernelRun.sl.v295
            kernelRun.sl.v287 kernelRun.sl.v286 kernelRun.sl.v285 kernelRun.sl.v312 kernelRun.sl.v309 kernelRun.sl.v301
            kernelRun.sl.v300 kernelRun.sl.v299 kernelRun.sl.H8_4 kernelRun.sl.H8_2 kernelRun.sl.r_2 kernelRun.sl.r kernelRun.sl.v50
            kernelRun.sl.v104 kernelRun.sl.r_3 kernelRun.sl.v89 kernelRun.sl.r_11 kernelRun.sl.r_7 kernelRun.sl.v173
            kernelRun.sl.v235 kernelRun.sl.v234 kernelRun.sl.v233 kernelRun.sl.v232 kernelRun.sl.v33 kernelRun.sl.v1 kernelRun.sl.v0
            kernelRun.sl.r_14 kernelRun.sl.r_12 kernelRun.sl.v212 kernelRun.sl.H7_4 kernelRun.sl.H7_2 kernelRun.sl.v140
            kernelRun.sl.r_6 kernelRun.sl.v144 kernelRun.sl.v141 kernelRun.sl.r_5 kernelRun.sl.v323 kernelRun.sl.v322
            kernelRun.sl.H12_1
          simp (disch := decide) only [↓rd_here, ↓rd_skip, ↓View.readCov_cons_toLoadRect, ↓View.readCov_skip, ↓View.readCov_fill]
          rfl
    iexists _; isplitr; swap; · iexact H13
    ipureintro; constructor <;>
      · unfold kernelRun.sl.v493 kernelRun.sl.v490 kernelRun.sl.v489 kernelRun.sl.v488 kernelRun.sl.v485 kernelRun.sl.v484
          kernelRun.sl.v481 kernelRun.sl.v480 kernelRun.sl.H12_4 kernelRun.sl.v483 kernelRun.sl.v482 kernelRun.sl.v487
          kernelRun.sl.v486 kernelRun.sl.H13_4 kernelRun.sl.v473 kernelRun.sl.v470 kernelRun.sl.v469 kernelRun.sl.v459
          kernelRun.sl.v458 kernelRun.sl.v468 kernelRun.sl.v465 kernelRun.sl.v464 kernelRun.sl.v461 kernelRun.sl.v460
          kernelRun.sl.H12_3 kernelRun.sl.v356 kernelRun.sl.v463 kernelRun.sl.v462 kernelRun.sl.H10_6 kernelRun.sl.H10_5
          kernelRun.sl.v467 kernelRun.sl.v466 kernelRun.sl.H13_3 kernelRun.sl.v352 kernelRun.sl.v351 kernelRun.sl.v350
          kernelRun.sl.v347 kernelRun.sl.v346 kernelRun.sl.v343 kernelRun.sl.v342 kernelRun.sl.H12_2 kernelRun.sl.v341
          kernelRun.sl.v338 kernelRun.sl.v337 kernelRun.sl.v336 kernelRun.sl.H11_4 kernelRun.sl.v158 kernelRun.sl.v155
          kernelRun.sl.v345 kernelRun.sl.v344 kernelRun.sl.v349 kernelRun.sl.v348 kernelRun.sl.H13_2 kernelRun.sl.v335
          kernelRun.sl.v332 kernelRun.sl.v331 kernelRun.sl.v321 kernelRun.sl.v320 kernelRun.sl.v330 kernelRun.sl.v327
          kernelRun.sl.v326 kernelRun.sl.v323 kernelRun.sl.v322 kernelRun.sl.H12_1 kernelRun.sl.v325 kernelRun.sl.v324
          kernelRun.sl.H10_4 kernelRun.sl.v154 kernelRun.sl.v151 kernelRun.sl.v150 kernelRun.sl.v147 kernelRun.sl.v146
          kernelRun.sl.v145 kernelRun.sl.v149 kernelRun.sl.v148 kernelRun.sl.v163 kernelRun.sl.v162 kernelRun.sl.v161
          kernelRun.sl.v160 kernelRun.sl.v159 kernelRun.sl.v294 kernelRun.sl.v291 kernelRun.sl.v290 kernelRun.sl.v287
          kernelRun.sl.v286 kernelRun.sl.v285 kernelRun.sl.v289 kernelRun.sl.v288 kernelRun.sl.v308 kernelRun.sl.v305
          kernelRun.sl.v304 kernelRun.sl.v301 kernelRun.sl.v300 kernelRun.sl.v299 kernelRun.sl.H8_4 kernelRun.sl.H8_2
          kernelRun.sl.r kernelRun.sl.r_3 kernelRun.sl.r_11 kernelRun.sl.r_7 kernelRun.sl.r_12 kernelRun.sl.v303 kernelRun.sl.v302
          kernelRun.sl.H9_4 kernelRun.sl.H9_2 kernelRun.sl.r_2 kernelRun.sl.r_1 kernelRun.sl.v50 kernelRun.sl.v104
          kernelRun.sl.r_4 kernelRun.sl.v89 kernelRun.sl.r_10 kernelRun.sl.r_9 kernelRun.sl.r_8 kernelRun.sl.v173
          kernelRun.sl.v235 kernelRun.sl.v234 kernelRun.sl.v233 kernelRun.sl.v232 kernelRun.sl.v33 kernelRun.sl.v1 kernelRun.sl.v0
          kernelRun.sl.r_14 kernelRun.sl.r_13 kernelRun.sl.v212 kernelRun.sl.H7_4 kernelRun.sl.H7_2 kernelRun.sl.v140
          kernelRun.sl.r_6 kernelRun.sl.v144 kernelRun.sl.v141 kernelRun.sl.r_5 kernelRun.sl.v329 kernelRun.sl.v328
          kernelRun.sl.H13_1
        simp (disch := decide) only [↓rd_here, ↓rd_skip, ↓View.readCov_cons_toLoadRect, ↓View.readCov_skip, ↓View.readCov_fill]
        rfl
  iintro %r ⟨⟨%g4, %hg4, H4⟩, ⟨%g5, %hg5, H5⟩, ⟨%g7, -, H7⟩, ⟨%g8, -, H8⟩, ⟨%g9, -, H9⟩, ⟨%g10, -, H10⟩, ⟨%g11, -, H11⟩, ⟨%g12, -, H12⟩, ⟨%g13, %hg13, H13⟩⟩
  obtain ⟨hg0, hg1⟩ := hg13
  sl_exec
  sl_step
  iapply Hk
  isplitl [H3]
  · iexists _; isplitr; swap; · iexact H3
    ipureintro; exact hf3
  isplitl [H6]
  · iexists _; isplitr; swap; · iexact H6
    ipureintro; rw [View.read_writes_full]; rfl
  isplitl [H4]
  · iexists _; isplitr; swap; · iexact H4
    ipureintro; exact hg4
  isplitl [H5]
  · iexists _; isplitr; swap; · iexact H5
    ipureintro; exact hg5
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Proof.SbValue
-- ==== Proof.SbExact.lean ====
/- The stick-breaking kernel's run in exact arithmetic: from any memory it ends, its argument is unchanged, no semaphore is left
   raised, and its result is the array of the points' blocks (`run`). -/
module

public import proofs.«01_k».proof.Proof.SbRun

@[expose] public section

set_option maxRecDepth 16384

noncomputable section

namespace Cert.Proof.SbValue

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- In exact arithmetic the constant the flag compares with is −∞: the flag never falls. -/
theorem flag (x : Ideal .f32) : Scalar.cmpf .oge x (Named.named κ "dead" 0xC3168000#32) = 1#1 := by
  have h : (Named.named κ "dead" 0xC3168000#32 : Ideal .f32) = (⊥ : EReal) := rfl
  rw [h]
  show (if (⊥ : EReal) ≤ x then 1#1 else 0#1) = 1#1
  exact if_pos bot_le

/-! ## The proof data -/

/-- The buffers when the kernel begins: after the host's reshape. -/
abbrev V (c : Dev nD) (b : Ref sig .tc) : Buf (Elt Ideal) ((c : Thread nD τ).loc b) := StableHlo.after hostOps0 (fun b => m (c, b)) b

theorem hostOps0_fresh : (hostOps0 : List (HloOp τ sig (Elt Ideal))).Forall fun op => op.fresh = ∅ := by
  simp only [List.Forall]; repeat' constructor

theorem hmain : Pipeline.HMain (Ix := Unit) (Name := ℕ) (U := UR sig nD τ) (Lvl := ℕ) (cfgs (F := Ideal)) 0 defs₀ 𝒱₀ m (main (F := Ideal)) (V m) :=
  Pipeline.hmain_prefix (cfgs (F := Ideal)) 0 defs₀ 𝒱₀ m main hostOps0 hostOps0_sub hostOps0_fresh main_chain

/-- The reshape leaves the argument as it was. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- The block of window `w` at the point `t`. -/
def iblk (c : Dev nD) (w : Fin (cfg0 (F := Ideal)).W) (t : Fin (cfg0 (F := Ideal)).N) : (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

/-- The inputs' blocks are left as they were; the result's is the point's. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outT (F := Ideal) (grid0.coords t) (iblk m c 0 t) (iblk m c 1 t) (iblk m c 2 t)
  Φ _ := Pipeline.ΦA spec0 c
  q w := Pipeline.shareOf spec0 w
  owed _ := 0

theorem A_eq (c : Dev nD) (w : Fin (cfg0 (F := Ideal)).W) : (dats m 0 c).A w = V m c (Pipeline.arrRef spec0 w) := by dsimp only [dats]
theorem after_0 (c : Dev nD) (t : Fin (cfg0 (F := Ideal)).N) : (dats m 0 c).after 0 t = iblk m c 0 t := by
  dsimp only [dats]
theorem after_1 (c : Dev nD) (t : Fin (cfg0 (F := Ideal)).N) : (dats m 0 c).after 1 t = iblk m c 1 t := by
  dsimp only [dats]
theorem after_2 (c : Dev nD) (t : Fin (cfg0 (F := Ideal)).N) : (dats m 0 c).after 2 t = iblk m c 2 t := by
  dsimp only [dats]

theorem after_3 (c : Dev nD) (t : Fin (cfg0 (F := Ideal)).N) :
    (dats m 0 c).after 3 t = outT (F := Ideal) (grid0.coords t) (iblk m c 0 t) (iblk m c 1 t) (iblk m c 2 t) := by
  dsimp only [dats]
theorem before_0 (c : Dev nD) (t : Fin (cfg0 (F := Ideal)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := Ideal)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := Ideal)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation and the launch -/

abbrev ms (t : Fin (cfg0 (F := Ideal)).N) : Memref sig .tc .vmem S256x128 .f32 := win0_0.stage ((cfg0 (F := Ideal)).slots t 0)
abbrev ms1 (t : Fin (cfg0 (F := Ideal)).N) : Memref sig .tc .vmem S2048x128 .f32 := win0_1.stage ((cfg0 (F := Ideal)).slots t 1)
abbrev ms2 (t : Fin (cfg0 (F := Ideal)).N) : Memref sig .tc .vmem S2048x128 .f32 := win0_2.stage ((cfg0 (F := Ideal)).slots t 2)
abbrev ms3 (t : Fin (cfg0 (F := Ideal)).N) : Memref sig .tc .vmem S256x128 .bf16 := win0_3.stage ((cfg0 (F := Ideal)).slots t 3)

abbrev sc0 : Memref sig .tc .vmem S2x2x256x128 .f32 := Memref.whole cc0_scratch0
abbrev sc1 : Memref sig .tc .vmem S2x2x256x128 .bf16 := Memref.whole cc0_scratch1
abbrev sc2 : Memref sig .tc .vmem S2x2x256x128 .f32 := Memref.whole cc0_scratch2
abbrev sc3 : Memref sig .tc .vmem S2x2x256x128 .f32 := Memref.whole cc0_scratch3
abbrev sc4 : Memref sig .tc .vmem S2x2x256x128 .f32 := Memref.whole cc0_scratch4
abbrev sc5 : Memref sig .tc .vmem S2x256x128 .f32 := Memref.whole cc0_scratch5
abbrev sc6 : Memref sig .tc .vmem S2x256x128 .f32 := Memref.whole cc0_scratch6

/-- What a point takes over and hands on: the scratch at any contents, and the generator's register. -/
theorem Phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)
          ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

def bodyPre (c : Dev nD) (t : Fin (cfg0 (F := Ideal)).N) : sProp 𝕄 :=
  iprop((dats m 0 c).Φ t.castSucc ∗ (dats m 0 c).owesAt () t.castSucc
    ∗ (∃ d, owns (c : Thread nD τ) (ms t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin (cfg0 (F := Ideal)).N) : sProp 𝕄 :=
  iprop((dats m 0 c).Φ t.succ ∗ (dats m 0 c).owesAt () t.succ
    ∗ owns (c : Thread nD τ) (ms t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
theorem sound_body (c : Dev nD) (t : Fin (cfg0 (F := Ideal)).N) :
    bodyPre m c t ⊢ wp frame (wpE (defs₀ (F := Ideal)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = Pipeline.ΦA spec0 c from rfl, Phi_eq]
  iintro ⟨⟨⟨S0, S1, S2, S3, S4, S5, S6⟩, Hg⟩, Ho, ⟨%d0, H0⟩, ⟨%d1, H1⟩, ⟨%d2, H2⟩, ⟨%d3, H3⟩⟩
  iapply (kernelRun c (grid0.coords t) _ _ _ _ _ _ _ _ _ _ _ _ _ _ _ _ _ _ _ _ _ _ flag (iblk m c 0 t) (iblk m c 1 t) (iblk m c 2 t))
  unfold heldAny
  isplitl [H0]; · iexact H0
  isplitl [H3]; · iexists _; iexact H3
  isplitl [H1 H2 S0 S1 S2 S3 S4 S5 S6]
  · isplitl [H1]; · iexact H1
    isplitl [H2]; · iexact H2
    isplitl [S0]; · iexact S0
    isplitl [S1]; · iexact S1
    isplitl [S2]; · iexact S2
    isplitl [S3]; · iexact S3
    isplitl [S4]; · iexact S4
    isplitl [S5]; · iexact S5
    iexact S6
  iintro ⟨H0, H3, ⟨H1, H2, S0, S1, S2, S3, S4, S5, S6⟩⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  iexact H3

theorem defs₀_row (t : Fin (cfg0 (F := Ideal)).N) : defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : BodyObligation (dats m 0 c) (defs₀ (F := Ideal)) 𝒱₀ () Set.univ := fun t => by
  rw [bigSep_W0, bigSep_W0, defs₀_row]
  exact triple_restated (sound_body m c t) rfl .rfl fun _ => .rfl

-- the launch theorem's implicit arguments are found by unifying its conclusion, which unfolds definitions in types
set_option backward.isDefEq.respectTransparency.types false in
theorem run_main : θ_run defs (onTc (τ := τ) (main (F := Ideal))) (s₀ m ρ)
    (fun r => Pipeline.FramePost (cfgs (F := Ideal)) (dats m) 0 (V m) r ∧ r.2.sem = fun _ => 0) :=
  Pipeline.θ_run_frame_shared (Q' := _) (cfgs (F := Ideal)) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The argument is unchanged, and the result array is what the points' blocks make. -/
theorem run : θ_run defs (onTc (τ := τ) (main (F := Ideal))) ⟨m, fun _ => 0, ρ⟩ (fun r => (∀ c : Dev nD,
      r.2.mem ((c.tc : Thread nD τ).loc main_v1) = (dats m 0 c).arrAt 3 (cfg0 (F := Ideal)).N
      ∧ r.2.mem ((c.tc : Thread nD τ).loc main_arg0) = m ((c.tc : Thread nD τ).loc main_arg0)) ∧ r.2.sem = fun _ => 0) :=
  (θ_run defs _ _).mono (fun _ h => ⟨fun c => ⟨(h.1 c).1 3,
    ((h.1 c).2 main_arg0 (Pipeline.mem_restRefs_of main_arg0 (by decide)
      fun w => (by decide : ∀ w : Fin 4, (spec0 w).arr.view.ref ≠ main_arg0) w)).trans (V_arg m c)⟩, h.2⟩) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).2, h.2⟩) (run m ρ)

end Cert.Proof.SbValue
-- ==== Proof.SbMath.lean ====
module
public import Idealize.ShloMosaic.PureOps.Ideal
public import Mathlib.Analysis.SpecialFunctions.Log.Basic
public import Mathlib.Analysis.SpecialFunctions.Pow.Real

/-! The softplus of a real number as the stick-breaking kernel computes it, in base two, and as the
host computes it, in base e; and the exponential of a base-two logarithm. -/

@[expose] public section
noncomputable section

namespace Cert.Proof.SbValue

open Idealize.ShloMosaic

/-- log (1 + eᵃ). -/
def sp (a : ℝ) : ℝ := Real.log (1 + Real.exp a)

theorem coe_max (a b : ℝ) : ((max a b : ℝ) : EReal) = max (a : EReal) (b : EReal) :=
  EReal.coe_strictMono.monotone.map_max

theorem coe_sum {ι : Type} (s : Finset ι) (f : ι → ℝ) : ((∑ x ∈ s, f x : ℝ) : EReal) = ∑ x ∈ s, (f x : EReal) := by
  classical
  induction s using Finset.induction_on with
  | empty => rfl
  | insert a s ha ih => rw [Finset.sum_insert ha, Finset.sum_insert ha, EReal.coe_add, ih]

/-- The word of minus one. -/
theorem minus_one : Ideal.ofBits .f32 0xBF800000#32 = ((-1 : ℝ) : EReal) := by
  simp [Ideal.ofBits, Ideal.ieee, -EReal.coe_mul, -EReal.coe_neg]; norm_num

/-- The word of an eighth. -/
theorem eighth : Ideal.ofBits .f32 0x3E000000#32 = ((1 / 8 : ℝ) : EReal) := by
  simp [Ideal.ofBits, Ideal.ieee, -EReal.coe_mul, -EReal.coe_neg]; norm_num

theorem log2_pos : 0 < Real.log 2 := Real.log_pos (by norm_num)

theorem sp_eq (a : ℝ) : max a 0 + Real.log (1 + Real.exp (-max a (-a))) = sp a := by
  unfold sp
  rcases le_total 0 a with h | h
  · rw [max_eq_left h, max_eq_left (by linarith)]
    have e : 1 + Real.exp a = Real.exp a * (1 + Real.exp (-a)) := by
      rw [mul_add, ← Real.exp_add]; simp [add_comm]
    rw [e, Real.log_mul (Real.exp_pos a).ne' (by positivity), Real.log_exp]
  · rw [max_eq_right h, max_eq_right (by linarith), neg_neg, zero_add]

/-- log (1 + e⁻ᵃ) is log (1 + eᵃ) − a. -/
theorem sp_neg (a : ℝ) : sp (-a) = sp a - a := by
  unfold sp
  have e : 1 + Real.exp a = Real.exp a * (1 + Real.exp (-a)) := by
    rw [mul_add, ← Real.exp_add]; simp [add_comm]
  rw [e, Real.log_mul (Real.exp_pos a).ne' (by positivity), Real.log_exp]; ring

theorem exp2_log2 (a : ℝ) : Ideal.exp2 ((a / Real.log 2 : ℝ) : EReal) = (Real.exp a : EReal) := by
  rw [Ideal.exp2_coe]
  show ((2 : ℝ) ^ (a / Real.log 2) : ℝ) = (_ : EReal)
  rw [Real.rpow_def_of_pos (by norm_num), mul_div_cancel₀ _ log2_pos.ne']

theorem log_one_add_exp (a : ℝ) : Ideal.log (1 + (Real.exp a : EReal)) = (Real.log (1 + Real.exp a) : EReal) := by
  rw [← EReal.coe_one, ← EReal.coe_add, Ideal.log_coe, if_neg (not_le.2 (by positivity))]

/-- The kernel's softplus: of a / log 2 it gives softplus a / log 2. -/
theorem sp_kernel (a : ℝ) :
    max ((a / Real.log 2 : ℝ) : EReal) 0
      + Ideal.log (1 + Ideal.exp2 (0 - max ((a / Real.log 2 : ℝ) : EReal) (-((a / Real.log 2 : ℝ) : EReal))))
        * (((Real.log 2)⁻¹ : ℝ) : EReal)
      = ((sp a / Real.log 2 : ℝ) : EReal) := by
  have h1 : (0 : EReal) - max ((a / Real.log 2 : ℝ) : EReal) (-((a / Real.log 2 : ℝ) : EReal))
      = ((-max a (-a) / Real.log 2 : ℝ) : EReal) := by
    rw [← EReal.coe_neg, ← coe_max, ← EReal.coe_zero, ← EReal.coe_sub, zero_sub, ← neg_div,
      max_div_div_right log2_pos.le, neg_div]
  rw [h1, exp2_log2, log_one_add_exp, ← EReal.coe_zero, ← coe_max, ← EReal.coe_mul, ← EReal.coe_add, ← sp_eq a]
  congr 1
  have h2 : max (a / Real.log 2) 0 = max a 0 / Real.log 2 := by
    rw [← max_div_div_right log2_pos.le, zero_div]
  rw [h2]; field_simp

/-- The host's softplus. -/
theorem sp_host (a : ℝ) :
    max (a : EReal) 0 + Ideal.log1p (Ideal.exp (-max (a : EReal) (-(a : EReal)))) = (sp a : EReal) := by
  rw [Ideal.log1p, ← EReal.coe_neg, ← coe_max, ← EReal.coe_neg, Ideal.exp_coe, log_one_add_exp,
    ← EReal.coe_zero, ← coe_max, ← EReal.coe_add, sp_eq]

end Cert.Proof.SbValue
-- ==== Proof.SbPoint.lean ====
module
public import proofs.«01_k».proof.Proof.SbSteps
public import proofs.«01_k».proof.Proof.SbMath
public import Idealize.ShloMosaic.Lib.Pointwise
public import Idealize.ShloMosaic.Lib.WordCmp

/-! The stick-breaking kernel's steps at one row and one column, over the extended reals. -/

@[expose] public section

set_option maxRecDepth 16384

noncomputable section

namespace Cert.Proof.SbValue

open Cert.SbIdeal Cert.SbIdeal.Gen
open Idealize.ShloMosaic Idealize.ShloMosaic.TcCoe Idealize.ShloMosaic.WordCmp

/-- The key position of column j of tile n. -/
def key (i : grid0.Coords) (n : ℕ) (j : ℕ) : ℕ := 128 * (2 * (i 2).val + 1 - n) + j
/-- The query position of row r. -/
def pos (i : grid0.Coords) (r : ℕ) : ℕ := 256 * (i 2).val + r

/-- The first key position of tile n, as the kernel's word. -/
abbrev firstKey (i : grid0.Coords) (w : BitVec 32) : BitVec 32 :=
  Scalar.muli (Scalar.maxsi (Scalar.subi (Scalar.subi (nw i) 1#32) w) 0#32) 128#32

theorem firstKey_zero (i : grid0.Coords) : firstKey i 0#32 = BitVec.ofNat 32 (128 * (2 * (i 2).val + 1 - 0)) :=
  (by decide : ∀ x : Fin 8, Scalar.muli (Scalar.maxsi (Scalar.subi (Scalar.subi
    (Scalar.muli (Scalar.addi (BitVec.ofNat 32 x.val) 1#32) 2#32) 1#32) 0#32) 0#32) 128#32
      = BitVec.ofNat 32 (128 * (2 * x.val + 1 - 0))) (i 2)

theorem firstKey_one (i : grid0.Coords) : firstKey i 1#32 = BitVec.ofNat 32 (128 * (2 * (i 2).val + 1 - 1)) :=
  (by decide : ∀ x : Fin 8, Scalar.muli (Scalar.maxsi (Scalar.subi (Scalar.subi
    (Scalar.muli (Scalar.addi (BitVec.ofNat 32 x.val) 1#32) 2#32) 1#32) 1#32) 0#32) 128#32
      = BitVec.ofNat 32 (128 * (2 * x.val + 1 - 1))) (i 2)

theorem firstQuery (i : grid0.Coords) : Scalar.muli (qw i) 256#32 = BitVec.ofNat 32 (256 * (i 2).val) :=
  (by decide : ∀ x : Fin 8, Scalar.muli (BitVec.ofNat 32 x.val) 256#32 = BitVec.ofNat 32 (256 * x.val)) (i 2)

/-- The kernel's comparison of positions. -/
theorem before (i : grid0.Coords) (w : BitVec 32) (n : ℕ) (h : firstKey i w = BitVec.ofNat 32 (128 * (2 * (i 2).val + 1 - n)))
    (r : Fin 256) (j : Fin 128) :
    IntOp.cmpi CmpIPredicate.slt (IntOp.addi (firstKey i w) (BitVec.ofNat 32 j.val))
      (IntOp.addi (Scalar.muli (qw i) 256#32) (BitVec.ofNat 32 r.val))
    = BitVec.ofBool (decide (key i n j.val < pos i r.val)) := by
  have hx : (i 2).val < 8 := (i 2).isLt
  have := j.isLt
  have := r.isLt
  rw [h, firstQuery]
  unfold key pos IntOp.addi
  rw [← BitVec.ofNat_add, ← BitVec.ofNat_add, cmpi_slt_ofNat (by omega) (by omega)]

/-- From the third tile on, every key comes before every query of the block. -/
theorem key_lt (i : grid0.Coords) (n : ℕ) (r : Fin 256) (j : Fin 128) (h : n + 2 ≤ 2 * (i 2).val + 1) : key i (n + 2) j.val < pos i r.val := by
  have := j.isLt
  unfold key pos; omega

section Rows

variable (i : grid0.Coords) (q : FVec Ideal S256x128 .bf16) (x4 x5 : Vec Ideal S2048x128 .f32)

theorem z_at (n : ℕ) (r : Fin 256) (j : Fin 128) :
    zT i q x4 n (ix4 0 0 r j) = ∑ d : Fin 128, (q (ix2 r d) : EReal) * tile i x4 n (ix2 j d) := by
  unfold zT
  pointwise [k0_pay116, k0_pay115]

/-- The softplus and the score less it, of the score a / log 2. -/
theorem sp_at (z : EReal) (a : ℝ) (h : z = ((a / Real.log 2 : ℝ) : EReal)) :
    max z 0 + Ideal.log (1 + FloatOps.exp2 (F := Ideal) (φ := .f32) (0 - FloatOps.absf (F := Ideal) (φ := .f32) z)) * Named.named (F := Ideal) (φ := .f32) κ "log2e" 1069066811#32
      = ((sp a / Real.log 2 : ℝ) : EReal) := by
  subst h; exact sp_kernel a

theorem zsp_at (z : EReal) (a : ℝ) (h : z = ((a / Real.log 2 : ℝ) : EReal)) :
    z - (max z 0 + Ideal.log (1 + FloatOps.exp2 (F := Ideal) (φ := .f32) (0 - FloatOps.absf (F := Ideal) (φ := .f32) z)) * Named.named (F := Ideal) (φ := .f32) κ "log2e" 1069066811#32)
      = (((a - sp a) / Real.log 2 : ℝ) : EReal) := by
  rw [sp_at z a h, h, ← EReal.coe_sub, sub_div]

/-- What a key adds to the tail sum: its softplus if it comes before the query, else nothing. -/
def keep (ζ : ℕ → ℝ) (t s : ℕ) : ℝ := if s < t then sp (ζ s) else 0

theorem s_at (n : ℕ) (hn : n ≤ 2 * (i 2).val + 1) (r : Fin 256) (j : Fin 128) (ζ : ℕ → ℝ)
    (h : zT i q x4 n (ix4 0 0 r j) = ((ζ (key i n j.val) / Real.log 2 : ℝ) : EReal)) :
    sT i q x4 n (ix4 0 0 r j) = ((keep ζ (pos i r.val) (key i n j.val) / Real.log 2 : ℝ) : EReal) := by
  unfold keep
  match n, hn, h with
  | 0, _, h =>
    unfold sT
    pointwise [k0_pay21, k0_pay17, k0_pay16, k0_pay19, k0_pay20]
    rw [before i _ 0 (firstKey_zero i), select_ofBool, sp_at _ _ h]
    by_cases hs : key i 0 j.val < pos i r.val <;> simp [hs]
  | 1, _, h =>
    unfold sT
    pointwise [k0_pay47, k0_pay42, k0_pay41, k0_pay46, k0_pay44, k0_pay45]
    rw [before i _ 1 (firstKey_one i), select_ofBool, sp_at _ _ h]
    by_cases hs : key i 1 j.val < pos i r.val <;> simp [hs]
  | n + 2, hn, h =>
    unfold sT
    pointwise [k0_pay137, k0_pay135, k0_pay134]
    rw [sp_at _ _ h, if_pos (key_lt i n r j hn)]

theorem l_at (n : ℕ) (hn : n ≤ 2 * (i 2).val + 1) (r : Fin 256) (j : Fin 128) (ζ : ℕ → ℝ)
    (h : zT i q x4 n (ix4 0 0 r j) = ((ζ (key i n j.val) / Real.log 2 : ℝ) : EReal)) :
    lT i q x4 n (ix4 0 0 r j) = if key i n j.val < pos i r.val then
      (((ζ (key i n j.val) - sp (ζ (key i n j.val))) / Real.log 2 : ℝ) : EReal) else ⊥ := by
  match n, hn, h with
  | 0, _, h =>
    unfold lT
    pointwise [k0_pay22, k0_pay18, k0_pay17, k0_pay16, k0_pay19, k0_pay20]
    rw [before i _ 0 (firstKey_zero i), select_ofBool, zsp_at _ _ h]
    by_cases hs : key i 0 j.val < pos i r.val <;> simp only [hs, decide_true, decide_false, if_true, if_false] <;> rfl
  | 1, _, h =>
    unfold lT
    pointwise [k0_pay48, k0_pay43, k0_pay42, k0_pay41, k0_pay44, k0_pay45]
    rw [before i _ 1 (firstKey_one i), select_ofBool, zsp_at _ _ h]
    by_cases hs : key i 1 j.val < pos i r.val <;> simp only [hs, decide_true, decide_false, if_true, if_false] <;> rfl
  | n + 2, hn, h =>
    unfold lT
    pointwise [k0_pay138, k0_pay136, k0_pay135, k0_pay134]
    rw [if_pos (key_lt i n r j hn)]
    exact zsp_at _ _ h

/-- The exclusive sum within a tile: the columns after j. -/
theorem e_at (s : Vec Ideal S1x1x256x128 .bf16) (l : Vec Ideal S1x1x256x128 .f32) (r : Fin 256) (j : Fin 128) (σ : ℕ → ℝ)
    (h : ∀ x : Fin 128, s (ix4 0 0 r x) = ((σ x.val : ℝ) : EReal)) :
    k0_pay120 (k0_pay119 k0_pay10 s l) (ix4 0 0 r j)
      = (l (ix4 0 0 r j) : EReal) + ((∑ x : Fin 128, if j.val < x.val then -σ x.val else 0 : ℝ) : EReal) := by
  pointwise [k0_pay120, k0_pay119, k0_pay118, k0_pay10]
  congr 1
  rw [coe_sum]
  refine Finset.sum_congr rfl fun x _ => ?_
  have := j.isLt
  have := x.isLt
  rw [cmpi_sgt_ofNat (by omega) (by omega), cmpi_sge_ofNat (by omega) (by omega), ori_ofBool, select_ofBool, h x]
  show (if _ then ((σ x.val : ℝ) : EReal) * Ideal.ofBits .f32 0xBF800000#32 else 0) = _
  rw [minus_one, ← EReal.coe_mul, mul_neg_one]
  by_cases hx : j.val < x.val
  · simp [hx]
  · simp [hx, show ¬ 128 ≤ j.val by omega]

/-- The sum of a whole tile. -/
theorem r_at (s : Vec Ideal S1x1x256x128 .bf16) (r : Fin 256) (j : Fin 128) (σ : ℕ → ℝ)
    (h : ∀ x : Fin 128, s (ix4 0 0 r x) = ((σ x.val : ℝ) : EReal)) :
    k0_pay121 (k0_pay118 k0_pay10 s) (ix4 0 0 r j) = ((∑ x : Fin 128, -σ x.val : ℝ) : EReal) := by
  pointwise [k0_pay121, k0_pay118, k0_pay10]
  rw [coe_sum]
  refine Finset.sum_congr rfl fun x _ => ?_
  have := j.isLt
  have := x.isLt
  rw [cmpi_sgt_ofNat (by omega) (by omega), cmpi_sge_ofNat (by omega) (by omega), ori_ofBool, select_ofBool, h x]
  show (if _ then ((σ x.val : ℝ) : EReal) * Ideal.ofBits .f32 0xBF800000#32 else 0) = _
  rw [minus_one, ← EReal.coe_mul, mul_neg_one]
  simp [show 128 ≤ 128 + j.val by omega]

theorem c_at (C : Vec Ideal S1x256x128 .f32) (e : Vec Ideal S1x1x256x128 .f32) (r : Fin 256) (j : Fin 128) :
    k0_pay128 C e (ix3 0 r j) = (C (ix3 0 r j) : EReal) + e (ix4 0 0 r j) := by
  pointwise [k0_pay128, k0_pay126]

theorem a_at (v : Vec Ideal S128x128 .f32) (e : Vec Ideal S1x1x256x128 .f32) (C A : Vec Ideal S1x256x128 .f32) (r : Fin 256) (l : Fin 128) :
    k0_pay127 (k0_pay125 v) C e A (ix3 0 r l)
      = (A (ix3 0 r l) : EReal) + ∑ x : Fin 128, Ideal.exp2 ((e (ix4 0 0 r x) : EReal) + C (ix3 0 r x)) * v (ix2 x l) := by
  pointwise [k0_pay127, k0_pay126, k0_pay125]
  rfl

end Rows

end Cert.Proof.SbValue
-- ==== Proof.SbTiles.lean ====
module
public import proofs.«01_k».proof.Proof.SbPoint

/-! The walk over the tiles in closed form. When the scores of a row are real, the carried sum after n
tiles is the sum of the softplus over the keys walked, and the accumulator is the sum of the weighted
values over them; after the last tile, over all keys. -/

@[expose] public section

set_option maxRecDepth 16384

noncomputable section

namespace Cert.Proof.SbValue

open Cert.SbIdeal Cert.SbIdeal.Gen
open Idealize.ShloMosaic Idealize.ShloMosaic.TcCoe
open Finset (Ico)

theorem tile_sum {M : Type} [AddCommMonoid M] (f : ℕ → M) (m : ℕ) :
    ∑ x : Fin 128, f (128 * m + x.val) = ∑ s ∈ Ico (128 * m) (128 * (m + 1)), f s := by
  rw [Finset.sum_Ico_eq_sum_range, show 128 * (m + 1) - 128 * m = 128 by omega, Finset.sum_range]

theorem after_sum (f : ℕ → ℝ) (m : ℕ) (j : Fin 128) :
    ∑ x : Fin 128, (if j.val < x.val then f (128 * m + x.val) else 0)
      = ∑ s ∈ Ico (128 * m + j.val + 1) (128 * (m + 1)), f s := by
  have hj := j.isLt
  have e : ∀ x : Fin 128, (if j.val < x.val then f (128 * m + x.val) else 0)
      = (fun s => if 128 * m + j.val < s then f s else 0) (128 * m + x.val) := by
    intro x; simp only [add_lt_add_iff_left]
  rw [Finset.sum_congr rfl fun x _ => e x, tile_sum (fun s => if 128 * m + j.val < s then f s else 0),
    ← Finset.sum_Ico_consecutive _ (show 128 * m ≤ 128 * m + j.val + 1 by omega) (show 128 * m + j.val + 1 ≤ 128 * (m + 1) by omega),
    Finset.sum_eq_zero, zero_add]
  · exact Finset.sum_congr rfl fun s hs => if_pos (by have := Finset.mem_Ico.1 hs; omega)
  · exact fun s hs => if_neg (by have := Finset.mem_Ico.1 hs; omega)

/-- The softplus summed over the keys from a on that come before the query at t. -/
def tail (ζ : ℕ → ℝ) (t a : ℕ) : ℝ := ∑ s ∈ Ico a 2048, keep ζ t s

/-- The weight of key s for the query at t: the stick-breaking probability. -/
def weight (ζ : ℕ → ℝ) (t s : ℕ) : ℝ :=
  if s < t then Real.exp (ζ s - sp (ζ s) - tail ζ t (s + 1)) else 0

theorem tail_split (ζ : ℕ → ℝ) (t a b : ℕ) (h : a ≤ b) (h' : b ≤ 2048) :
    ∑ s ∈ Ico a b, keep ζ t s + tail ζ t b = tail ζ t a :=
  Finset.sum_Ico_consecutive _ h h'

theorem tail_past (ζ : ℕ → ℝ) (t a : ℕ) (h : t ≤ a) : tail ζ t a = 0 :=
  Finset.sum_eq_zero fun s hs => if_neg (by have := Finset.mem_Ico.1 hs; omega)

section Walk

variable (i : grid0.Coords) (q : FVec Ideal S256x128 .bf16) (x4 x5 : Vec Ideal S2048x128 .f32) (r : Fin 256) (ζ : ℕ → ℝ)
  (h : ∀ n, n ≤ 2 * (i 2).val + 1 → ∀ j : Fin 128,
    zT i q x4 n (ix4 0 0 r j) = ((ζ (key i n j.val) / Real.log 2 : ℝ) : EReal))

include h

theorem r_val (n : ℕ) (hn : n ≤ 2 * (i 2).val + 1) (j : Fin 128) :
    rT i q k0_pay10 x4 n (ix4 0 0 r j)
      = ((-(∑ s ∈ Ico (128 * (2 * (i 2).val + 1 - n)) (128 * (2 * (i 2).val + 1 - n + 1)), keep ζ (pos i r.val) s) / Real.log 2 : ℝ) : EReal) := by
  unfold rT
  rw [r_at _ r j (fun x => keep ζ (pos i r.val) (key i n x) / Real.log 2) fun x => s_at i q x4 n hn r x ζ (h n hn x)]
  congr 1
  rw [Finset.sum_neg_distrib, ← tile_sum, neg_div, Finset.sum_div]
  rfl

theorem e_val (n : ℕ) (hn : n ≤ 2 * (i 2).val + 1) (j : Fin 128) :
    eT i q k0_pay10 x4 n (ix4 0 0 r j) = if key i n j.val < pos i r.val then
      (((ζ (key i n j.val) - sp (ζ (key i n j.val))
        - ∑ s ∈ Ico (key i n j.val + 1) (128 * (2 * (i 2).val + 1 - n + 1)), keep ζ (pos i r.val) s) / Real.log 2 : ℝ) : EReal) else ⊥ := by
  unfold eT
  rw [e_at _ _ r j (fun x => keep ζ (pos i r.val) (key i n x) / Real.log 2) fun x => s_at i q x4 n hn r x ζ (h n hn x),
    l_at i q x4 n hn r j ζ (h n hn j)]
  have e : (∑ x : Fin 128, if j.val < x.val then -(keep ζ (pos i r.val) (key i n x.val) / Real.log 2) else 0)
      = -(∑ s ∈ Ico (key i n j.val + 1) (128 * (2 * (i 2).val + 1 - n + 1)), keep ζ (pos i r.val) s) / Real.log 2 := by
    unfold key
    rw [← after_sum, neg_div, Finset.sum_div, ← Finset.sum_neg_distrib]
    refine Finset.sum_congr rfl fun x _ => ?_
    by_cases hx : j.val < x.val <;> simp [hx]
  rw [e]
  by_cases hs : key i n j.val < pos i r.val
  · rw [if_pos hs, if_pos hs, ← EReal.coe_add]
    congr 1; ring
  · rw [if_neg hs, if_neg hs, EReal.bot_add]

theorem c_val (n : ℕ) (hn : n ≤ 2 * (i 2).val + 2) (j : Fin 128) :
    cT i q k0_pay10 x4 n (ix3 0 r j) = ((-tail ζ (pos i r.val) (128 * (2 * (i 2).val + 2 - n)) / Real.log 2 : ℝ) : EReal) := by
  have hx : (i 2).val < 8 := (i 2).isLt
  have hr := r.isLt
  induction n with
  | zero =>
    rw [tail_past _ _ _ (by unfold pos; omega)]
    show Ideal.ofBits .f32 0#32 = _
    rw [Ideal.ofBits_zero_f32]; simp
  | succ n ih =>
    show k0_pay128 _ _ _ = _
    rw [c_at, ih (by omega), r_val i q x4 r ζ h n (by omega), ← EReal.coe_add,
      ← tail_split ζ _ (128 * (2 * (i 2).val + 2 - (n + 1))) (128 * (2 * (i 2).val + 2 - n)) (by omega) (by omega)]
    congr 1
    rw [show 2 * (i 2).val + 2 - (n + 1) = 2 * (i 2).val + 1 - n by omega,
      show 2 * (i 2).val + 2 - n = 2 * (i 2).val + 1 - n + 1 by omega]
    ring

/-- The weight that the kernel gives a key. -/
theorem w_val (n : ℕ) (hn : n ≤ 2 * (i 2).val + 1) (j : Fin 128) :
    Ideal.exp2 ((eT i q k0_pay10 x4 n (ix4 0 0 r j) : EReal) + cT i q k0_pay10 x4 n (ix3 0 r j))
      = (weight ζ (pos i r.val) (key i n j.val) : EReal) := by
  have hx : (i 2).val < 8 := (i 2).isLt
  have hr := r.isLt
  have hj := j.isLt
  rw [e_val i q x4 r ζ h n hn j, c_val i q x4 r ζ h n (by omega) j]
  unfold weight
  by_cases hs : key i n j.val < pos i r.val
  · rw [if_pos hs, if_pos hs, ← EReal.coe_add, ← add_div, exp2_log2,
      ← tail_split ζ _ (key i n j.val + 1) (128 * (2 * (i 2).val + 2 - n)) (by unfold key; omega) (by omega),
      show 2 * (i 2).val + 2 - n = 2 * (i 2).val + 1 - n + 1 by omega]
    congr 2; ring
  · rw [if_neg hs, if_neg hs, EReal.bot_add]
    rfl

/-- The value at key s and lane l. -/
def valueAt (x5 : Vec Ideal S2048x128 .f32) (l : Fin 128) (s : ℕ) : EReal :=
  if hs : s < 2048 then x5 (ix2 ⟨s, hs⟩ l) else 0

omit h in
theorem value_tile (n : ℕ) (x : Fin 128) (l : Fin 128) : tile i x5 n (ix2 x l) = valueAt x5 l (key i n x.val) := by
  have hx : (i 2).val < 8 := (i 2).isLt
  have := x.isLt
  unfold valueAt key
  rw [dif_pos (by omega)]
  rfl

theorem a_val (n : ℕ) (hn : n ≤ 2 * (i 2).val + 2) (l : Fin 128) :
    aT i q k0_pay10 x4 x5 n (ix3 0 r l)
      = ∑ s ∈ Ico (128 * (2 * (i 2).val + 2 - n)) 2048, (weight ζ (pos i r.val) s : EReal) * valueAt x5 l s := by
  have hx : (i 2).val < 8 := (i 2).isLt
  have hr := r.isLt
  induction n with
  | zero =>
    rw [Finset.sum_eq_zero]
    · exact Ideal.ofBits_zero_f32
    · intro s hs
      have := Finset.mem_Ico.1 hs
      unfold weight
      rw [if_neg (by unfold pos; omega), EReal.coe_zero, zero_mul]
  | succ n ih =>
    show k0_pay127 _ _ _ _ _ = _
    rw [a_at, ih (by omega), add_comm,
      ← Finset.sum_Ico_consecutive _ (show 128 * (2 * (i 2).val + 2 - (n + 1)) ≤ 128 * (2 * (i 2).val + 2 - n) by omega) (by omega)]
    congr 1
    rw [show 2 * (i 2).val + 2 - (n + 1) = 2 * (i 2).val + 1 - n by omega,
      show 2 * (i 2).val + 2 - n = 2 * (i 2).val + 1 - n + 1 by omega, ← tile_sum]
    refine Finset.sum_congr rfl fun x _ => ?_
    rw [w_val i q x4 r ζ h n (by omega), value_tile]
    rfl

/-- After the last tile: the weighted values of all keys. -/
theorem a_all (l : Fin 128) :
    aT i q k0_pay10 x4 x5 (2 * ((i 2).val + 1)) (ix3 0 r l)
      = ∑ s : Fin 2048, (weight ζ (pos i r.val) s.val : EReal) * x5 (ix2 s l) := by
  rw [a_val i q x4 x5 r ζ h _ (by omega), show 128 * (2 * (i 2).val + 2 - 2 * ((i 2).val + 1)) = 0 by omega,
    Finset.sum_Ico_eq_sum_range, Finset.sum_range]
  refine Finset.sum_congr rfl fun s _ => ?_
  have hs := s.isLt
  unfold valueAt
  rw [zero_add, dif_pos hs]

end Walk

end Cert.Proof.SbValue
-- ==== Proof.SbScore.lean ====
module
public import proofs.«01_k».proof.Proof.SbTiles
public import Idealize.ShloMosaic.Lib.Pipeline.ValueKit

/-! The kernel's scores. A block holds two heads side by side, 64 lanes each; for each head the other
head's lanes of the queries are zeroed, so that the sum over 128 lanes is the head's over 64. -/

@[expose] public section

set_option maxRecDepth 16384

noncomputable section

namespace Cert.Proof.SbValue

open Cert.SbIdeal Cert.SbIdeal.Gen
open Idealize.ShloMosaic Idealize.ShloMosaic.TcCoe Idealize.ShloMosaic.WordCmp

theorem low_at (x : Vec Ideal S256x128 .f32) (r : Fin 256) (d : Fin 128) :
    k0_pay8 x (ix2 r d) = if d.val < 64 then (x (ix2 r d) : EReal) * (((8 * Real.log 2)⁻¹ : ℝ) : EReal) else 0 := by
  have := d.isLt
  pointwise [k0_pay8, k0_pay7, k0_pay6]
  rw [cmpi_slt_ofNat (by omega) (by omega), select_decide]
  rfl

theorem high_at (x : Vec Ideal S256x128 .f32) (r : Fin 256) (d : Fin 128) :
    k0_pay9 x (ix2 r d) = if d.val < 64 then 0 else (x (ix2 r d) : EReal) * (((8 * Real.log 2)⁻¹ : ℝ) : EReal) := by
  have := d.isLt
  pointwise [k0_pay9, k0_pay7, k0_pay6]
  rw [cmpi_slt_ofNat (by omega) (by omega), select_decide]
  rfl

theorem out_at (x y : Vec Ideal S1x256x128 .f32) (r : Fin 256) (j : Fin 128) :
    k0_pay1 k0_pay6 (k0_pay114 x) y (ix2 r j) = if j.val < 64 then (x (ix3 0 r j) : EReal) else y (ix3 0 r j) := by
  have := j.isLt
  pointwise [k0_pay1, k0_pay6, k0_pay114]
  rw [cmpi_slt_ofNat (by omega) (by omega), select_decide]

theorem tile_at (i : grid0.Coords) (x : Vec Ideal S2048x128 .f32) (K : ℕ → Fin 128 → ℝ)
    (hk : ∀ (s : Fin 2048) d, (x (ix2 s d) : EReal) = (K s.val d : EReal)) (n : ℕ) (j d : Fin 128) :
    (tile i x n (ix2 j d) : EReal) = (K (key i n j.val) d : EReal) := hk _ d

theorem scaled (a b : ℝ) : (a : EReal) * (((8 * Real.log 2)⁻¹ : ℝ) : EReal) * (b : EReal) = ((a * b / 8 / Real.log 2 : ℝ) : EReal) := by
  have := log2_pos.ne'
  rw [← EReal.coe_mul, ← EReal.coe_mul]
  congr 1
  field_simp

theorem z_low (i : grid0.Coords) (x3 : Vec Ideal S256x128 .f32) (x4 : Vec Ideal S2048x128 .f32) (r : Fin 256)
    (Q : Fin 128 → ℝ) (K : ℕ → Fin 128 → ℝ) (hq : ∀ d, (x3 (ix2 r d) : EReal) = (Q d : EReal))
    (hk : ∀ (s : Fin 2048) d, (x4 (ix2 s d) : EReal) = (K s.val d : EReal)) (n : ℕ) (j : Fin 128) :
    zT i (k0_pay8 x3) x4 n (ix4 0 0 r j)
      = (((∑ d : Fin 64, Q ⟨d.val, by omega⟩ * K (key i n j.val) ⟨d.val, by omega⟩) / 8 / Real.log 2 : ℝ) : EReal) := by
  rw [z_at, Fin.sum_univ_two_halves 64 64 rfl, Finset.sum_div, Finset.sum_div, coe_sum]
  have e2 : ∀ d : Fin 64, (k0_pay8 x3 (ix2 r ⟨64 + d.val, by omega⟩) : EReal) * tile i x4 n (ix2 j ⟨64 + d.val, by omega⟩) = 0 := by
    intro d
    rw [low_at, if_neg (by simp), zero_mul]
  have e1 : ∀ d : Fin 64, (k0_pay8 x3 (ix2 r ⟨d.val, by omega⟩) : EReal) * tile i x4 n (ix2 j ⟨d.val, by omega⟩)
      = ((Q ⟨d.val, by omega⟩ * K (key i n j.val) ⟨d.val, by omega⟩ / 8 / Real.log 2 : ℝ) : EReal) := by
    intro d
    rw [low_at, if_pos (by simp), tile_at i x4 K hk, hq, scaled]
  rw [Finset.sum_eq_zero (fun d _ => e2 d), add_zero]
  exact Finset.sum_congr rfl fun d _ => e1 d

theorem z_high (i : grid0.Coords) (x3 : Vec Ideal S256x128 .f32) (x4 : Vec Ideal S2048x128 .f32) (r : Fin 256)
    (Q : Fin 128 → ℝ) (K : ℕ → Fin 128 → ℝ) (hq : ∀ d, (x3 (ix2 r d) : EReal) = (Q d : EReal))
    (hk : ∀ (s : Fin 2048) d, (x4 (ix2 s d) : EReal) = (K s.val d : EReal)) (n : ℕ) (j : Fin 128) :
    zT i (k0_pay9 x3) x4 n (ix4 0 0 r j)
      = (((∑ d : Fin 64, Q ⟨64 + d.val, by omega⟩ * K (key i n j.val) ⟨64 + d.val, by omega⟩) / 8 / Real.log 2 : ℝ) : EReal) := by
  rw [z_at, Fin.sum_univ_two_halves 64 64 rfl, Finset.sum_div, Finset.sum_div, coe_sum]
  have e1 : ∀ d : Fin 64, (k0_pay9 x3 (ix2 r ⟨d.val, by omega⟩) : EReal) * tile i x4 n (ix2 j ⟨d.val, by omega⟩) = 0 := by
    intro d
    rw [high_at, if_pos (by simp), zero_mul]
  have e2 : ∀ d : Fin 64, (k0_pay9 x3 (ix2 r ⟨64 + d.val, by omega⟩) : EReal) * tile i x4 n (ix2 j ⟨64 + d.val, by omega⟩)
      = ((Q ⟨64 + d.val, by omega⟩ * K (key i n j.val) ⟨64 + d.val, by omega⟩ / 8 / Real.log 2 : ℝ) : EReal) := by
    intro d
    rw [high_at, if_neg (by simp), tile_at i x4 K hk, hq, scaled]
  rw [Finset.sum_eq_zero (fun d _ => e1 d), zero_add]
  exact Finset.sum_congr rfl fun d _ => e2 d

end Cert.Proof.SbValue
-- ==== Proof.SbRef.lean ====
module
public import proofs.«01_k».proof.Proof.SbTiles
public import proofs.«01_k».proof.Proof.Gen.SbRefIdeal.Read
public import Idealize.ShloMosaic.Lib.Pointwise
public import Idealize.ShloMosaic.Lib.WordCmp

/-! The reference of the stick-breaking attention, element by element: with real queries and keys, its
weights are the real numbers `weight`, the host's reversed cumulative sum being a sum over the keys from
one position on (`window_sum`). -/

@[expose] public section

set_option maxRecDepth 16384

noncomputable section

namespace Cert.Proof.SbRef

open Cert.SbRefIdeal Cert.SbRefIdeal.Gen Cert.SbRefIdeal.Read
open Cert.Proof.SbValue
open Idealize.ShloMosaic Idealize.ShloMosaic.TcCoe Idealize.ShloMosaic.WordCmp
open Finset (Ico)

/-- The queries and keys of `z` are real numbers. -/
def Reals (z : FVec Ideal S16x2048x6656 .f32) : Prop :=
  ∀ (b : Fin 16) (t c : Fin 2048), (z (ix3 b t ⟨c.val, by omega⟩) : EReal) = ((EReal.toReal (z (ix3 b t ⟨c.val, by omega⟩)) : ℝ) : EReal)

/-- The query at t, at column c. -/
def query (z : FVec Ideal S16x2048x6656 .f32) (b : Fin 16) (t : Fin 2048) (c : Fin 1024) : ℝ :=
  EReal.toReal (z (ix3 b t ⟨c.val, by omega⟩))

/-- The key at s, at column c. -/
def keyAt (z : FVec Ideal S16x2048x6656 .f32) (b : Fin 16) (s : ℕ) (c : Fin 1024) : ℝ :=
  if hs : s < 2048 then EReal.toReal (z (ix3 b ⟨s, hs⟩ ⟨1024 + c.val, by omega⟩)) else 0

/-- The score of head h between the query at t and the key at s. -/
def score (z : FVec Ideal S16x2048x6656 .f32) (b h : Fin 16) (t : Fin 2048) (s : ℕ) : ℝ :=
  (∑ d : Fin 64, query z b t ⟨h.val * 64 + d.val, by omega⟩ * keyAt z b s ⟨h.val * 64 + d.val, by omega⟩) / 8

theorem query_eq (z : FVec Ideal S16x2048x6656 .f32) (hz : Reals z) (b : Fin 16) (t : Fin 2048) (c : Fin 1024) :
    (z (ix3 b t ⟨c.val, by omega⟩) : EReal) = (query z b t c : EReal) := hz b t ⟨c.val, by omega⟩

theorem keyAt_eq (z : FVec Ideal S16x2048x6656 .f32) (hz : Reals z) (b : Fin 16) (s : Fin 2048) (c : Fin 1024) :
    (z (ix3 b s ⟨1024 + c.val, by omega⟩) : EReal) = (keyAt z b s.val c : EReal) := by
  unfold keyAt
  rw [dif_pos s.isLt]
  exact hz b s ⟨1024 + c.val, by omega⟩

theorem score_at (z : FVec Ideal S16x2048x6656 .f32) (hz : Reals z) (b h : Fin 16) (t s : Fin 2048) :
    val_main_v12 (F := Ideal) z (ix4 b h t s) = (score z b h t s.val : EReal) := by
  pointwise [val_main_v12, val_main_v11, val_main_cst, val_main_v10, val_main_v5, val_main_v7, val_main_v4, val_main_v6, val_main_v1, val_main_v2, val_main_v0]
  have e : score z b h t s.val
      = (∑ d : Fin 64, query z b t ⟨h.val * 64 + d.val, by omega⟩ * keyAt z b s.val ⟨h.val * 64 + d.val, by omega⟩) * (1 / 8) := by
    unfold score; ring
  rw [eighth, e, EReal.coe_mul, coe_sum]
  congr 1
  refine Finset.sum_congr rfl fun d _ => ?_
  rw [EReal.coe_mul, ← query_eq z hz, ← keyAt_eq z hz]

/-- The logarithm of the probability that the stick is not broken at s, where s comes before t. -/
theorem keep_at (z : FVec Ideal S16x2048x6656 .f32) (hz : Reals z) (b h : Fin 16) (t s : Fin 2048) :
    val_main_v21 (F := Ideal) z (ix4 b h t s) = ((-keep (score z b h t) t.val s.val : ℝ) : EReal) := by
  have hs := s.isLt
  have ht := t.isLt
  pointwise [val_main_v21, val_main_v20, val_main_v19, val_main_v18, val_main_v17, val_main_v16, val_main_v15,
    val_main_v14, val_main_v13, val_main_call1_v1, val_main_call1_v2, val_main_call1_v0, val_main_cst_0,
    val_main_call0_v1, val_main_call0_v0, val_main_call0_call0_v1, val_main_call0_call0_v0, val_main_call0_call0_cst,
    val_main_call0_call0_v2, val_main_call0_call0_v3, val_main_call0_call0_v4, val_main_call0_call0_v5,
    val_main_call0_call0_v6, val_main_call0_call0_v7, val_main_call0_call0_v8, val_main_call0_call0_v9,
    val_main_call0_call0_v10, val_main_call0_call0_v11]
  rw [cmpi_slt_ofNat (by omega) (by omega), select_decide, score_at z hz, neg_neg]
  simp only [ne_eq, not_true_eq_false, if_false]
  unfold keep
  by_cases hst : s.val < t.val
  · rw [if_pos hst, if_pos hst, EReal.coe_neg]
    congr 1
    exact sp_host _
  · rw [if_neg hst, if_neg hst, neg_zero]
    exact Ideal.ofBits_zero_f32

theorem foldl_add {ι : Type} (f : ι → EReal) (l : List ι) (v : EReal) :
    l.foldl (fun r n => r + f n) v = v + (l.map f).sum := by
  induction l generalizing v with
  | nil => simp
  | cons a l ih => simp only [List.foldl_cons, List.map_cons, List.sum_cons]; rw [ih, add_assoc]

/-- The window's last coordinate numbers its elements. -/
def windowEquiv : (⟨4, ![1, 1, 1, 2048]⟩ : Shape).Idx ≃ Fin 2048 where
  toFun w := w 3
  invFun k := ix4 0 0 0 k
  left_inv w := by
    funext a
    fin_cases a
    · exact Subsingleton.elim (α := Fin 1) _ _
    · exact Subsingleton.elim (α := Fin 1) _ _
    · exact Subsingleton.elim (α := Fin 1) _ _
    · rfl
  right_inv k := rfl

/-- The host's cumulative sum from the end: at s, the sum of the elements from s on. -/
theorem window_sum (x : FVec Ideal S16x16x2048x2048 .f32) (v : FVec Ideal S_ .f32) (hv : v (Shape.Idx.first h_S_) = (0 : EReal))
    (b h : Fin 16) (t s : Fin 2048) (g : ℕ → ℝ) (hx : ∀ a : Fin 2048, x (ix4 b h t a) = (g a.val : EReal)) :
    Host.reduceWindowAdd ![1, 1, 1, 2048] ![1, 1, 1, 1] ![0, 0, 0, 0] ![0, 0, 0, 2047] x v
      reduceWindows_S16x16x2048x2048_S16x16x2048x2048_w1s1p0_0_w1s1p0_0_w1s1p0_0_w2048s1p0_2047 h_S_ (ix4 b h t s)
      = ((∑ a ∈ Ico s.val 2048, g a : ℝ) : EReal) := by
  show Ideal.hostReduceWindowAdd ![1, 1, 1, 2048] ![1, 1, 1, 1] ![0, 0, 0, 0] ![0, 0, 0, 2047]
    reduceWindows_S16x16x2048x2048_S16x16x2048x2048_w1s1p0_0_w1s1p0_0_w1s1p0_0_w2048s1p0_2047 x (v (Shape.Idx.first h_S_)) (ix4 b h t s) = _
  rw [hv]
  unfold Ideal.hostReduceWindowAdd Host.reduceWindow
  simp only []
  rw [foldl_add, zero_add, ← Fin.sum_univ_def]
  rw [Fintype.sum_equiv ((⟨4, ![1, 1, 1, 2048]⟩ : Shape).rowMajor.symm.trans windowEquiv) _
    (fun k : Fin 2048 => if s.val + k.val < 2048 then ((g (s.val + k.val) : ℝ) : EReal) else 0)]
  · rw [Fin.sum_univ_eq_sum_range (fun k => if s.val + k < 2048 then ((g (s.val + k) : ℝ) : EReal) else 0) 2048,
      Finset.sum_Ico_eq_sum_range, coe_sum,
      ← Finset.sum_subset (Finset.range_mono (show 2048 - s.val ≤ 2048 by omega)) fun k _ hk =>
        if_neg (by have := Finset.mem_range.not.1 hk; omega)]
    exact Finset.sum_congr rfl fun k hk => if_pos (by have := Finset.mem_range.1 hk; omega)
  · intro n
    let w : (⟨4, ![1, 1, 1, 2048]⟩ : Shape).Idx := (⟨4, ![1, 1, 1, 2048]⟩ : Shape).rowMajor.symm n
    change _ = if s.val + (w 3).val < 2048 then ((g (s.val + (w 3).val) : ℝ) : EReal) else 0
    have h0 : (w 0).val = 0 := Nat.lt_one_iff.1 (w 0).isLt
    have h1 : (w 1).val = 0 := Nat.lt_one_iff.1 (w 1).isLt
    have h2 : (w 2).val = 0 := Nat.lt_one_iff.1 (w 2).isLt
    have hb := b.isLt
    have hh := h.isLt
    have ht := t.isLt
    by_cases hk : s.val + (w 3).val < 2048
    · rw [if_pos hk, dif_pos]
      · rw [← hx ⟨s.val + (w 3).val, hk⟩]
        congr 1
        funext a
        apply Fin.ext
        fin_cases a
        · show b.val * 1 + (w 0).val - 0 = b.val; omega
        · show h.val * 1 + (w 1).val - 0 = h.val; omega
        · show t.val * 1 + (w 2).val - 0 = t.val; omega
        · show s.val * 1 + (w 3).val - 0 = s.val + (w 3).val; omega
      · intro a
        fin_cases a
        · show 0 ≤ _ ∧ b.val * 1 + (w 0).val - 0 < 16; omega
        · show 0 ≤ _ ∧ h.val * 1 + (w 1).val - 0 < 16; omega
        · show 0 ≤ _ ∧ t.val * 1 + (w 2).val - 0 < 2048; omega
        · show 0 ≤ _ ∧ s.val * 1 + (w 3).val - 0 < 2048; omega
    · rw [if_neg hk, dif_neg]
      intro hall
      have : s.val * 1 + (w 3).val - 0 < 2048 := (hall 3).2
      omega

/-- The logarithm of the probability that no later stick is broken. -/
theorem tail_at (z : FVec Ideal S16x2048x6656 .f32) (hz : Reals z) (b h : Fin 16) (t s : Fin 2048) :
    val_main_v26 (F := Ideal) z (ix4 b h t s) = ((-tail (score z b h t) t.val (s.val + 1) : ℝ) : EReal) := by
  have e : ∀ a : Fin 2048, val_main_v22 (F := Ideal) z (ix4 b h t a) = ((-tail (score z b h t) t.val a.val : ℝ) : EReal) := by
    intro a
    unfold val_main_v22
    rw [window_sum _ _ Ideal.ofBits_zero_f32 b h t a (fun a => -keep (score z b h t) t.val a) (keep_at z hz b h t), Finset.sum_neg_distrib]
    rfl
  by_cases hs : s.val < 2047
  · have e1 : ∀ s : Fin 2047, val_main_v26 (F := Ideal) z (ix4 b h t ⟨s.val, by omega⟩)
        = val_main_v22 (F := Ideal) z (ix4 b h t ⟨1 + s.val, by omega⟩) := by
      intro s
      pointwise [val_main_v26, val_main_v23, val_main_v25, val_main_cst_1]
    rw [add_comm s.val 1]
    exact (e1 ⟨s.val, hs⟩).trans (e _)
  · have e2 : val_main_v26 (F := Ideal) z (ix4 b h t ⟨2047, by omega⟩) = (0 : EReal) := by
      pointwise [val_main_v26, val_main_v23, val_main_v25, val_main_cst_1]
    have hs' : s = ⟨2047, by omega⟩ := Fin.ext (by have := s.isLt; show s.val = 2047; omega)
    rw [hs', e2, tail_past _ _ _ (by have := t.isLt; show t.val ≤ 2047 + 1; omega)]
    simp

/-- The reference's weight of a key. -/
theorem weight_at (z : FVec Ideal S16x2048x6656 .f32) (hz : Reals z) (b h : Fin 16) (t s : Fin 2048) :
    val_main_v30 (F := Ideal) z (ix4 b h t s) = (weight (score z b h t) t.val s.val : EReal) := by
  have hs := s.isLt
  have ht := t.isLt
  pointwise [val_main_v30, val_main_v29, val_main_v28, val_main_v27, val_main_v18, val_main_v17, val_main_v16,
    val_main_v15, val_main_v14, val_main_v13, val_main_call4_v1, val_main_call4_v2, val_main_call4_v0, val_main_cst_2,
    val_main_call3_v1, val_main_call3_v0, val_main_call3_call0_v1, val_main_call3_call0_v0, val_main_call3_call0_cst,
    val_main_call3_call0_v2, val_main_call3_call0_v3, val_main_call3_call0_v4, val_main_call3_call0_v5,
    val_main_call3_call0_v6, val_main_call3_call0_v7, val_main_call3_call0_v8, val_main_call3_call0_v9,
    val_main_call3_call0_v10, val_main_call3_call0_v11]
  rw [cmpi_slt_ofNat (by omega) (by omega), select_decide, score_at z hz, tail_at z hz]
  simp only [ne_eq, not_true_eq_false, if_false]
  unfold weight
  by_cases hst : s.val < t.val
  · rw [if_pos hst, if_pos hst]
    have e := sp_host (-score z b h t s.val)
    rw [sp_neg, EReal.coe_neg] at e
    refine (congrArg Ideal.exp (congrArg (fun y : EReal => -y + _) e)).trans ?_
    rw [← EReal.coe_neg, ← EReal.coe_add, Ideal.exp_coe]
    congr 2; ring
  · rw [if_neg hst, if_neg hst]
    exact Ideal.ofBits_zero_f32

/-- The reference at a flattened row and a column. -/
theorem ref_flat (z : FVec Ideal S16x2048x6656 .f32) (r : Fin 32768) (c : Fin 1024) :
    val_main_v34 (F := Ideal) z (ix2 r c)
      = ∑ s : Fin 2048, (val_main_v30 (F := Ideal) z (ix4 ⟨r.val / 2048, by omega⟩ ⟨c.val / 64, by omega⟩ ⟨r.val % 2048, by omega⟩ s) : EReal)
          * z (ix3 ⟨r.val / 2048, by omega⟩ s ⟨2048 + c.val, by omega⟩) := by
  pointwise [val_main_v34, val_main_v33, val_main_v32, val_main_v31, val_main_v9, val_main_v8, val_main_v3, val_main_v0]

theorem ref_at (z : FVec Ideal S16x2048x6656 .f32) (r : Fin 32768) (c : Fin 1024) (b h : Fin 16) (t : Fin 2048)
    (hb : (⟨r.val / 2048, by omega⟩ : Fin 16) = b) (ht : (⟨r.val % 2048, by omega⟩ : Fin 2048) = t) (hh : (⟨c.val / 64, by omega⟩ : Fin 16) = h) :
    val_main_v34 (F := Ideal) z (ix2 r c)
      = ∑ s : Fin 2048, (val_main_v30 (F := Ideal) z (ix4 b h t s) : EReal) * z (ix3 b s ⟨2048 + c.val, by omega⟩) := by
  subst hb ht hh
  exact ref_flat z r c

/-- With real queries and keys: the sum of the values, each weighted by its key's probability. -/
theorem ref_eq (z : FVec Ideal S16x2048x6656 .f32) (hz : Reals z) (r : Fin 32768) (c : Fin 1024) (b h : Fin 16) (t : Fin 2048)
    (hr : r.val = 2048 * b.val + t.val) (hc : c.val / 64 = h.val) :
    val_main_v34 (F := Ideal) z (ix2 r c)
      = ∑ s : Fin 2048, (weight (score z b h t) t.val s.val : EReal) * z (ix3 b s ⟨2048 + c.val, by omega⟩) := by
  rw [ref_at z r c b h t (Fin.ext (by show r.val / 2048 = b.val; omega)) (Fin.ext (by show r.val % 2048 = t.val; omega)) (Fin.ext hc)]
  exact Finset.sum_congr rfl fun s _ => by rw [weight_at z hz]

end Cert.Proof.SbRef
-- ==== Proof.SbValue.lean ====
/- The stick-breaking attention's array. `V0`, `idx`, `iblk0`–`iblk2` and `emb3` say what the host hands the call, which block
   each grid point takes, what the blocks hold and where the result's block lies; `block_low` and `block_high` read the
   result's block, one head each, and `final` states that the array is the reference's when the queries and keys are real. -/
module

public import proofs.«01_k».proof.Proof.SbExact
public import proofs.«01_k».proof.Proof.SbScore
public import proofs.«01_k».proof.Proof.SbRef
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.SbValue

open Idealize.ShloMosaic Idealize.ShloMosaic.TcCoe Idealize.SL.Sem
open Idealize.ShloMosaic.Pipeline (Dat)
open Cert.SbIdeal Cert.SbIdeal.Gen
open Idealize.ShloMosaic.StableHlo
open Cert.Proof.SbRef (Reals query keyAt score)

variable (m : (ℓ : Loc nD τ sig) → Buf (Elt Ideal) ℓ)

theorem V0 (c : Dev nD) : (V m c main_v0 : FVec Ideal S32768x6656 .f32)
    = shapeCast S32768x6656 (m ((c : Thread nD τ).loc main_arg0)) shapeCasts_S16x2048x6656_S32768x6656 := by
  unfold V; after_results <;> rfl

/-- Which block of each array a grid point takes: the point's batch, its pair of heads and its query tile. -/
theorem idx : ∀ t : Fin (cfg0 (F := Ideal)).N, win0_0.index t = ![8 * (t.val / 64) + t.val % 8, t.val / 8 % 8]
    ∧ win0_1.index t = ![t.val / 64, 8 + t.val / 8 % 8] ∧ win0_2.index t = ![t.val / 64, 16 + t.val / 8 % 8]
    ∧ win0_3.index t = ![8 * (t.val / 64) + t.val % 8, t.val / 8 % 8] :=
  (by decide +kernel : ∀ t : Fin grid0.N, _)

theorem coord : ∀ t : Fin (cfg0 (F := Ideal)).N, ((grid0.coords t) 2).val = t.val % 8 :=
  (by decide +kernel : ∀ t : Fin grid0.N, _)

theorem t_lt (t : Fin (cfg0 (F := Ideal)).N) : t.val < 1024 := t.isLt

/-- The point's batch. -/
def bat (t : Fin (cfg0 (F := Ideal)).N) : Fin 16 := ⟨t.val / 64, by have := t_lt t; omega⟩
/-- The position of a row of the point's query block. -/
def row (t : Fin (cfg0 (F := Ideal)).N) (r : Fin 256) : Fin 2048 := ⟨256 * (t.val % 8) + r.val, by omega⟩
/-- The column of a lane of the point's pair of heads. -/
def col (t : Fin (cfg0 (F := Ideal)).N) (l : Fin 128) : Fin 1024 := ⟨128 * (t.val / 8 % 8) + l.val, by omega⟩

theorem iblk0 (c : Dev nD) (t : Fin (cfg0 (F := Ideal)).N) (r : Fin 256) (l : Fin 128) :
    iblk m c 0 t (ix2 r l) = (m ((c : Thread nD τ).loc main_arg0)) (ix3 (bat t) (row t r) ⟨(col t l).val, by omega⟩) := by
  unfold bat row col
  blk_ext! [iblk, V0, idx t]
theorem iblk1 (c : Dev nD) (t : Fin (cfg0 (F := Ideal)).N) (s : Fin 2048) (l : Fin 128) :
    iblk m c 1 t (ix2 s l) = (m ((c : Thread nD τ).loc main_arg0)) (ix3 (bat t) s ⟨1024 + (col t l).val, by omega⟩) := by
  unfold bat col
  blk_ext! [iblk, V0, idx t]
theorem iblk2 (c : Dev nD) (t : Fin (cfg0 (F := Ideal)).N) (s : Fin 2048) (l : Fin 128) :
    iblk m c 2 t (ix2 s l) = (m ((c : Thread nD τ).loc main_arg0)) (ix3 (bat t) s ⟨2048 + (col t l).val, by omega⟩) := by
  unfold bat col
  blk_ext! [iblk, V0, idx t]

theorem out_lt (t : Fin (cfg0 (F := Ideal)).N) (r : Fin 256) : 2048 * (bat t).val + (row t r).val < 32768 := by
  have := (bat t).isLt; have := (row t r).isLt; omega

theorem emb3 (t : Fin (cfg0 (F := Ideal)).N) (r : Fin 256) (l : Fin 128) :
    ((View.whole main_v1).slice (win0_3.rect t)).emb (ix2 r l) = ix2 ⟨2048 * (bat t).val + (row t r).val, out_lt t r⟩ (col t l) := by
  unfold bat row col
  blk_ext! [idx t]

/-- The first and the second head of the point's pair. -/
def head (t : Fin (cfg0 (F := Ideal)).N) (k : Fin 2) : Fin 16 := ⟨2 * (t.val / 8 % 8) + k.val, by omega⟩

/-- The host's argument. -/
abbrev arg (c : Dev nD) : FVec Ideal S16x2048x6656 .f32 := m ((c : Thread nD τ).loc main_arg0)

theorem pos_row (t : Fin (cfg0 (F := Ideal)).N) (r : Fin 256) : pos (grid0.coords t) r.val = (row t r).val := by
  unfold pos row; rw [coord]

theorem query_blk (c : Dev nD) (hz : Reals (arg m c)) (t : Fin (cfg0 (F := Ideal)).N) (r : Fin 256) (d : Fin 128) :
    (iblk m c 0 t (ix2 r d) : EReal) = (query (arg m c) (bat t) (row t r) (col t d) : EReal) := by
  rw [iblk0]; exact SbRef.query_eq _ hz _ _ _

theorem key_blk (c : Dev nD) (hz : Reals (arg m c)) (t : Fin (cfg0 (F := Ideal)).N) (s : Fin 2048) (d : Fin 128) :
    (iblk m c 1 t (ix2 s d) : EReal) = (keyAt (arg m c) (bat t) s.val (col t d) : EReal) := by
  rw [iblk1]; exact SbRef.keyAt_eq _ hz _ _ _

/-- The first head's result at a row and a lane. -/
theorem block_low (c : Dev nD) (hz : Reals (arg m c)) (t : Fin (cfg0 (F := Ideal)).N) (r : Fin 256) (l : Fin 128) :
    aT (F := Ideal) (grid0.coords t) (k0_pay8 (iblk m c 0 t)) k0_pay10 (iblk m c 1 t) (iblk m c 2 t) (2 * (((grid0.coords t) 2).val + 1)) (ix3 0 r l)
      = ∑ s : Fin 2048, (weight (score (arg m c) (bat t) (head t 0) (row t r)) (row t r).val s.val : EReal)
          * arg m c (ix3 (bat t) s ⟨2048 + (col t l).val, by omega⟩) := by
  rw [a_all (grid0.coords t) _ _ _ r (score (arg m c) (bat t) (head t 0) (row t r)) ?_ l, pos_row]
  · exact Finset.sum_congr rfl fun s _ => by rw [iblk2]
  · intro n hn j
    rw [z_low (grid0.coords t) _ _ r _ (fun s d => keyAt (arg m c) (bat t) s (col t d)) (query_blk m c hz t r) (key_blk m c hz t)]
    have e : ∀ d : Fin 64, col t ⟨d.val, by omega⟩ = ⟨(head t 0).val * 64 + d.val, by have := (head t 0).isLt; omega⟩ :=
      fun d => Fin.ext (by unfold col head; simp only [Fin.val_zero]; omega)
    unfold score
    simp only [e]

/-- The second head's. -/
theorem block_high (c : Dev nD) (hz : Reals (arg m c)) (t : Fin (cfg0 (F := Ideal)).N) (r : Fin 256) (l : Fin 128) :
    aT (F := Ideal) (grid0.coords t) (k0_pay9 (iblk m c 0 t)) k0_pay10 (iblk m c 1 t) (iblk m c 2 t) (2 * (((grid0.coords t) 2).val + 1)) (ix3 0 r l)
      = ∑ s : Fin 2048, (weight (score (arg m c) (bat t) (head t 1) (row t r)) (row t r).val s.val : EReal)
          * arg m c (ix3 (bat t) s ⟨2048 + (col t l).val, by omega⟩) := by
  rw [a_all (grid0.coords t) _ _ _ r (score (arg m c) (bat t) (head t 1) (row t r)) ?_ l, pos_row]
  · exact Finset.sum_congr rfl fun s _ => by rw [iblk2]
  · intro n hn j
    rw [z_high (grid0.coords t) _ _ r _ (fun s d => keyAt (arg m c) (bat t) s (col t d)) (query_blk m c hz t r) (key_blk m c hz t)]
    have e : ∀ d : Fin 64, col t ⟨64 + d.val, by omega⟩ = ⟨(head t 1).val * 64 + d.val, by have := (head t 1).isLt; omega⟩ :=
      fun d => Fin.ext (by unfold col head; simp only [Fin.val_one]; omega)
    unfold score
    simp only [e]

/-- The array the call returns is the reference's. -/
theorem final (c : Dev nD) (hz : Reals (arg m c)) : (dats m 0 c).arrAt 3 (cfg0 (F := Ideal)).N
    = Cert.SbRefIdeal.Read.val_main_v34 (F := Ideal) (m ((c : Thread nD τ).loc main_arg0)) := by
  refine (dats m 0 c).arrAt_eq_of_covers 3 _ (by decide +kernel) fun t _ y => ?_
  blk_simp
  rw [after_3]
  idx_vars y
  rw [emb3]
  unfold outT
  rw [out_at]
  by_cases hl : y1.val < 64
  · rw [if_pos hl, block_low m c hz]
    exact (SbRef.ref_eq _ hz _ _ (bat t) (head t 0) (row t y0) rfl (by unfold col head; simp only [Fin.val_zero]; omega)).symm
  · rw [if_neg hl, block_high m c hz]
    exact (SbRef.ref_eq _ hz _ _ (bat t) (head t 1) (row t y0) rfl (by unfold col head; simp only [Fin.val_one]; omega)).symm

end Cert.Proof.SbValue

end
-- ==== Proof.SbPre.lean ====
/- What the precondition says: the queries and keys, over the extended reals, are real numbers. -/
module

public import proofs.«01_k».proof.Pre_finite_qk
public import proofs.«01_k».proof.Proof.SbRef
public import Idealize.ShloMosaic.Lib.Pointwise
public import Idealize.ShloMosaic.Lib.WordCmp

@[expose] public section

set_option maxRecDepth 16384

noncomputable section

namespace Cert.Proof.SbPre

open Idealize.ShloMosaic
open Cert.Pre_finite_qk

theorem facts : Cert.Pre_finite_qk.Facts := ⟨by decide, by decide⟩

/-- A number whose absolute value is below another is real. -/
theorem real_of_abs_lt (x y : EReal) (h : max x (-x) < y) : x = ((x.toReal : ℝ) : EReal) := by
  refine (EReal.coe_toReal ?_ ?_).symm
  · rintro rfl
    exact absurd h (by simp)
  · rintro rfl
    exact absurd h (by simp)

theorem reals [Cert.Pre_finite_qk.Facts] (z : FVec Ideal S16x2048x6656 .f32) (h : fn (F := Ideal) z = fun _ => 1#1) : SbRef.Reals z := by
  intro b t c
  have e := congrFun h (ix3 b t c)
  revert e
  pointwise [fn]
  intro e
  exact real_of_abs_lt _ _ ((WordCmp.ofBool_decide_eq_one_iff _).1 e)

end Cert.Proof.SbPre

end
-- ==== Proof.lean ====
/- The certificate of the calls of the encoder trunk, put together. Every module under `Proof/` named after a call ends in
   `final`: at the ideal instance the array that the call returns is the reference's array of the same arguments. Here each
   of these is set beside the two generated runs — the call's, with its result array named, and the reference's, with its
   result the composed term of its operations — which makes the algebraic claims. The frames of the calls are the
   generated ones, but for the stick-breaking attention's, whose loop has a frame of its own in `SbFrame` and `SbValue`; its
   algebraic claim alone is under a precondition, that queries and keys are finite. A reference declares no semaphore, so
   its frame is its run. -/
module

public import proofs.«01_k».proof.Defs
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.FfnFinal
public import proofs.«01_k».proof.Proof.Gen.FfnFinal.Frame
public import proofs.«01_k».proof.Proof.Gen.FfnFinalIdeal
public import proofs.«01_k».proof.Proof.Gen.FfnFinalIdeal.Frame
public import proofs.«01_k».proof.Proof.Gen.FfnFinalIdeal.Value
public import proofs.«01_k».proof.Proof.Gen.FfnFinalRefIdeal
public import proofs.«01_k».proof.Proof.Gen.FfnFinalRefIdeal.Run
public import proofs.«01_k».proof.Proof.Gen.FfnFinalRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Sb
public import proofs.«01_k».proof.Proof.Gen.Sb.Skeleton
public import proofs.«01_k».proof.Proof.Gen.Sb.Points
public import proofs.«01_k».proof.Proof.Gen.Sb.Launch
public import proofs.«01_k».proof.Proof.Gen.SbIdeal
public import proofs.«01_k».proof.Proof.Gen.SbIdeal.Skeleton
public import proofs.«01_k».proof.Proof.Gen.SbIdeal.Points
public import proofs.«01_k».proof.Proof.Gen.SbIdeal.Launch
public import proofs.«01_k».proof.Proof.Gen.SbRefIdeal
public import proofs.«01_k».proof.Proof.Gen.SbRefIdeal.Run
public import proofs.«01_k».proof.Proof.Gen.SbRefIdeal.Read
public import proofs.«01_k».proof.Proof.Sgu
public import proofs.«01_k».proof.Proof.FfnFinal
public import proofs.«01_k».proof.Proof.Ffn
public import proofs.«01_k».proof.Proof.OddIn
public import proofs.«01_k».proof.Proof.EvenIn
public import proofs.«01_k».proof.Proof.OutProj
public import proofs.«01_k».proof.Proof.SbFrame
public import proofs.«01_k».proof.Proof.SbValue
public import proofs.«01_k».proof.Proof.SbPre
public import Idealize.ShloMosaic.Adequacy
public import Idealize.ShloMosaic.Init

@[expose] public section

noncomputable section

namespace Cert.Proof

open Idealize.ShloMosaic Idealize.SL.Sem

/-- The spatial gating unit: the reference runs and leaves its arguments; it declares no semaphore. -/
theorem Sgu.frame_ref : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

/-- The spatial gating unit: the call's result array is the reference's, in exact arithmetic (`Sgu.final`). -/
theorem Sgu.algebraic : Cert.algebraic_SguIdeal_SguRefIdeal := by
  intro m ρ m' ρ' _ hag
  refine ⟨_, (θ_run Cert.SguIdeal.defs _ _).mono (fun _ h c => ⟨(h c).1.trans (Sgu.final m c), (h c).2⟩)
    (Cert.SguIdeal.Value.run_blocks m ρ), ?_⟩
  refine (θ_run Cert.SguRefIdeal.defs _ _).mono (fun _ h c => ⟨(h c).1.trans ?_, (h c).2⟩) (Cert.SguRefIdeal.Value.run (F := Ideal) m' ρ')
  rw [Cert.SguRefIdeal.Read.val_main_v46_eq, (hag c).1, (hag c).2.1, (hag c).2.2.1, (hag c).2.2.2.1, (hag c).2.2.2.2.1, (hag c).2.2.2.2.2.1, (hag c).2.2.2.2.2.2]

/-- The last feed-forward network with the trunk's final norm: the reference runs and leaves its arguments; it declares no semaphore. -/
theorem FfnFinal.frame_ref : Cert.quiescent_FfnFinalRefIdeal := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- The last feed-forward network with the trunk's final norm: the call's result array is the reference's, in exact arithmetic (`FfnFinal.final`). -/
theorem FfnFinal.algebraic : Cert.algebraic_FfnFinalIdeal_FfnFinalRefIdeal := by
  intro m ρ m' ρ' _ hag
  refine ⟨_, (θ_run Cert.FfnFinalIdeal.defs _ _).mono (fun _ h c => ⟨(h c).1.trans (FfnFinal.final m c), (h c).2⟩)
    (Cert.FfnFinalIdeal.Value.run_blocks m ρ), ?_⟩
  refine (θ_run Cert.FfnFinalRefIdeal.defs _ _).mono (fun _ h c => ⟨(h c).1.trans ?_, (h c).2⟩) (Cert.FfnFinalRefIdeal.Value.run (F := Ideal) m' ρ')
  rw [Cert.FfnFinalRefIdeal.Read.val_main_v31_eq, (hag c).1, (hag c).2.1, (hag c).2.2.1, (hag c).2.2.2.1, (hag c).2.2.2.2]

/-- The squared-ReLU feed-forward network: the reference runs and leaves its arguments; it declares no semaphore. -/
theorem Ffn.frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The squared-ReLU feed-forward network: the call's result array is the reference's, in exact arithmetic (`Ffn.final`). -/
theorem Ffn.algebraic : Cert.algebraic_FfnIdeal_FfnRefIdeal := by
  intro m ρ m' ρ' _ hag
  refine ⟨_, (θ_run Cert.FfnIdeal.defs _ _).mono (fun _ h c => ⟨(h c).1.trans (Ffn.final m c), (h c).2⟩)
    (Cert.FfnIdeal.Value.run_blocks m ρ), ?_⟩
  refine (θ_run Cert.FfnRefIdeal.defs _ _).mono (fun _ h c => ⟨(h c).1.trans ?_, (h c).2⟩) (Cert.FfnRefIdeal.Value.run (F := Ideal) m' ρ')
  rw [Cert.FfnRefIdeal.Read.val_main_v18_eq, (hag c).1, (hag c).2.1, (hag c).2.2.1, (hag c).2.2.2.1]

/-- The odd layers' projection and GELU: the reference runs and leaves its arguments; it declares no semaphore. -/
theorem OddIn.frame_ref : Cert.quiescent_OddInRefIdeal := fun m ρ _ =>
  (θ_run Cert.OddInRefIdeal.defs _ _).mono (fun r h => ⟨fun c => (h c).2, sem_eq_zero_of_no_sems (by decide) r.2⟩)
    (Cert.OddInRefIdeal.Value.run (F := Ideal) m ρ)

/-- The odd layers' projection and GELU: the call's result array is the reference's, in exact arithmetic (`OddIn.final`). -/
theorem OddIn.algebraic : Cert.algebraic_OddInIdeal_OddInRefIdeal := by
  intro m ρ m' ρ' _ hag
  refine ⟨_, (θ_run Cert.OddInIdeal.defs _ _).mono (fun _ h c => ⟨(h c).1.trans (OddIn.final m c), (h c).2⟩)
    (Cert.OddInIdeal.Value.run_blocks m ρ), ?_⟩
  refine (θ_run Cert.OddInRefIdeal.defs _ _).mono (fun _ h c => ⟨(h c).1.trans ?_, (h c).2⟩) (Cert.OddInRefIdeal.Value.run (F := Ideal) m' ρ')
  rw [Cert.OddInRefIdeal.Read.val_main_v21_eq, (hag c).1, (hag c).2.1, (hag c).2.2]

/-- The even layers' projection: the reference runs and leaves its arguments; it declares no semaphore. -/
theorem EvenIn.frame_ref : Cert.quiescent_EvenInRefIdeal := fun m ρ _ =>
  (θ_run Cert.EvenInRefIdeal.defs _ _).mono (fun r h => ⟨fun c => (h c).2, sem_eq_zero_of_no_sems (by decide) r.2⟩)
    (Cert.EvenInRefIdeal.Value.run (F := Ideal) m ρ)

/-- The even layers' projection: the call's result array is the reference's, in exact arithmetic (`EvenIn.final`). -/
theorem EvenIn.algebraic : Cert.algebraic_EvenInIdeal_EvenInRefIdeal := by
  intro m ρ m' ρ' _ hag
  refine ⟨_, (θ_run Cert.EvenInIdeal.defs _ _).mono (fun _ h c => ⟨(h c).1.trans (EvenIn.final m c), (h c).2⟩)
    (Cert.EvenInIdeal.Value.run_blocks m ρ), ?_⟩
  refine (θ_run Cert.EvenInRefIdeal.defs _ _).mono (fun _ h c => ⟨(h c).1.trans ?_, (h c).2⟩) (Cert.EvenInRefIdeal.Value.run (F := Ideal) m' ρ')
  rw [Cert.EvenInRefIdeal.Read.val_main_v15_eq, (hag c).1, (hag c).2.1, (hag c).2.2]

/-- The even layers' output projection: the reference runs and leaves its arguments; it declares no semaphore. -/
theorem OutProj.frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The even layers' output projection: the call's result array is the reference's, in exact arithmetic (`OutProj.final`). -/
theorem OutProj.algebraic : Cert.algebraic_OutProjIdeal_OutProjRefIdeal := by
  intro m ρ m' ρ' _ hag
  refine ⟨_, (θ_run Cert.OutProjIdeal.defs _ _).mono (fun _ h c => ⟨(h c).1.trans (OutProj.final m c), (h c).2⟩)
    (Cert.OutProjIdeal.Value.run_blocks m ρ), ?_⟩
  refine (θ_run Cert.OutProjRefIdeal.defs _ _).mono (fun _ h c => ⟨(h c).1.trans ?_, (h c).2⟩) (Cert.OutProjRefIdeal.Value.run (F := Ideal) m' ρ')
  rw [Cert.OutProjRefIdeal.Read.val_main_v5_eq, (hag c).1, (hag c).2.1, (hag c).2.2.1, (hag c).2.2.2]

/-- The stick-breaking attention: the reference runs and leaves its arguments; it declares no semaphore. -/
theorem Sb.frame_ref : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- The stick-breaking attention's four named constants stand where their literals stood. -/
theorem Sb.preserves : Cert.preserves_Sb_SbIdeal :=
  ⟨IdealRules.named_const.statement _ _ .f32 _ _ rfl, IdealRules.named_const.statement _ _ .f32 _ _ rfl,
    IdealRules.named_const.statement _ _ .f32 _ _ rfl, IdealRules.named_const.statement _ _ .f32 _ _ rfl⟩

/-- The stick-breaking attention: where the queries and keys are finite, the call's result array is the reference's, in
    exact arithmetic (`SbValue.final`). -/
theorem Sb.algebraic [Cert.Pre_finite_qk.Facts] : Cert.algebraic_SbIdeal_SbRefIdeal_pre_finite_qk := by
  intro m ρ m' ρ' hpre hag
  refine ⟨_, (θ_run Cert.SbIdeal.defs _ _).mono
    (fun _ h c => ⟨((h.1 c).1).trans (SbValue.final m c (SbPre.reals _ (hpre c))), (h.1 c).2⟩) (SbValue.run m ρ), ?_⟩
  refine (θ_run Cert.SbRefIdeal.defs _ _).mono (fun _ h c => ⟨(h c).1.trans ?_, (h c).2⟩) (Cert.SbRefIdeal.Value.run (F := Ideal) m' ρ')
  rw [Cert.SbRefIdeal.Read.val_main_v34_eq, hag c]

/-- The certificate: the side conditions of the programs, the frames, and the value claims, in the order of `Cert.Claim`. -/
theorem claim : Cert.Claim :=
  ⟨Cert.Sgu.Gen.facts, Cert.SguIdeal.Gen.facts, Cert.SguRefIdeal.Gen.facts,
    Cert.FfnFinal.Gen.facts, Cert.FfnFinalIdeal.Gen.facts, Cert.FfnFinalRefIdeal.Gen.facts,
    Cert.Ffn.Gen.facts, Cert.FfnIdeal.Gen.facts, Cert.FfnRefIdeal.Gen.facts,
    Cert.OddIn.Gen.facts, Cert.OddInIdeal.Gen.facts, Cert.OddInRefIdeal.Gen.facts,
    Cert.EvenIn.Gen.facts, Cert.EvenInIdeal.Gen.facts, Cert.EvenInRefIdeal.Gen.facts,
    Cert.OutProj.Gen.facts, Cert.OutProjIdeal.Gen.facts, Cert.OutProjRefIdeal.Gen.facts,
    Cert.Sb.Gen.facts, Cert.SbIdeal.Gen.facts, Cert.SbRefIdeal.Gen.facts, SbPre.facts,
    fun m ρ _ => Cert.Sgu.Gen.frame m ρ, fun m ρ _ => Cert.SguIdeal.Gen.frame m ρ, Sgu.frame_ref,
    fun m ρ _ => Cert.FfnFinal.Gen.frame m ρ, fun m ρ _ => Cert.FfnFinalIdeal.Gen.frame m ρ, FfnFinal.frame_ref,
    fun m ρ _ => Cert.Ffn.Gen.frame m ρ, fun m ρ _ => Cert.FfnIdeal.Gen.frame m ρ, Ffn.frame_ref,
    fun m ρ _ => Cert.OddIn.Gen.frame m ρ, fun m ρ _ => Cert.OddInIdeal.Gen.frame m ρ, OddIn.frame_ref,
    fun m ρ _ => Cert.EvenIn.Gen.frame m ρ, fun m ρ _ => Cert.EvenInIdeal.Gen.frame m ρ, EvenIn.frame_ref,
    fun m ρ _ => Cert.OutProj.Gen.frame m ρ, fun m ρ _ => Cert.OutProjIdeal.Gen.frame m ρ, OutProj.frame_ref,
    fun m ρ _ => SbFrame.frame m ρ, fun m ρ _ => SbValue.frame m ρ, fun m ρ _ => SbValue.frame m ρ, Sb.frame_ref,
    fun m ρ _ => Sb.frame_ref m ρ trivial,
    trivial, Sgu.algebraic, trivial, FfnFinal.algebraic, trivial, Ffn.algebraic, trivial, OddIn.algebraic, trivial, EvenIn.algebraic, trivial, OutProj.algebraic,
    Sb.preserves, haveI := SbPre.facts; Sb.algebraic⟩

end Cert.Proof

end
